-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S6000 : Shape := ⟨1, ![6000]⟩
abbrev S_ : Shape := ⟨0, ![]⟩
abbrev S6000x1 : Shape := ⟨2, ![6000, 1]⟩
abbrev S1 : Shape := ⟨1, ![1]⟩
abbrev S1x1 : Shape := ⟨2, ![1, 1]⟩
abbrev S6000x4 : Shape := ⟨2, ![6000, 4]⟩
abbrev S1000 : Shape := ⟨1, ![1000]⟩
abbrev S1000x1 : Shape := ⟨2, ![1000, 1]⟩
abbrev S1000x4 : Shape := ⟨2, ![1000, 4]⟩

abbrev nBuf : Space → Nat
  | .hbm => 401
  | .vmem => 2
  | .smem => 0
  | _ => 0

abbrev hbmTy0_0 (i : Nat) : BufTy := match i % 128 with
  | 0 => ⟨S20000x4, .f32⟩
  | 1 => ⟨S20000x4, .f32⟩
  | 2 => ⟨S20000, .f32⟩
  | 3 => ⟨S6000, .f32⟩
  | 4 => ⟨S6000, .i32⟩
  | 5 => ⟨S_, .i32⟩
  | 6 => ⟨S6000, .i32⟩
  | 7 => ⟨S6000, .i1⟩
  | 8 => ⟨S_, .i32⟩
  | 9 => ⟨S6000, .i32⟩
  | 10 => ⟨S6000, .i32⟩
  | 11 => ⟨S6000, .i32⟩
  | 12 => ⟨S6000x1, .i32⟩
  | 13 => ⟨S1, .i32⟩
  | 14 => ⟨S_, .i32⟩
  | 15 => ⟨S6000x1, .i32⟩
  | 16 => ⟨S6000x1, .i1⟩
  | 17 => ⟨S1x1, .i32⟩
  | 18 => ⟨S6000x1, .i32⟩
  | 19 => ⟨S6000x1, .i1⟩
  | 20 => ⟨S6000x1, .i1⟩
  | 21 => ⟨S_, .i1⟩
  | 22 => ⟨S6000, .i1⟩
  | 23 => ⟨S6000x4, .f32⟩
  | 24 => ⟨S6000x4, .i1⟩
  | 25 => ⟨S_, .f32⟩
  | 26 => ⟨S6000x4, .f32⟩
  | 27 => ⟨S6000x4, .f32⟩
  | 28 => ⟨S_, .i32⟩
  | 29 => ⟨S6000, .i32⟩
  | 30 => ⟨S6000, .i1⟩
  | 31 => ⟨S_, .i32⟩
  | 32 => ⟨S6000, .i32⟩
  | 33 => ⟨S6000, .i32⟩
  | 34 => ⟨S6000, .i32⟩
  | 35 => ⟨S6000x1, .i32⟩
  | 36 => ⟨S1, .i32⟩
  | 37 => ⟨S_, .i32⟩
  | 38 => ⟨S6000x1, .i32⟩
  | 39 => ⟨S6000x1, .i1⟩
  | 40 => ⟨S1x1, .i32⟩
  | 41 => ⟨S6000x1, .i32⟩
  | 42 => ⟨S6000x1, .i1⟩
  | 43 => ⟨S6000x1, .i1⟩
  | 44 => ⟨S_, .i1⟩
  | 45 => ⟨S6000, .i1⟩
  | 46 => ⟨S6000x4, .f32⟩
  | 47 => ⟨S6000x4, .i1⟩
  | 48 => ⟨S_, .f32⟩
  | 49 => ⟨S6000x4, .f32⟩
  | 50 => ⟨S6000x4, .f32⟩
  | 51 => ⟨S6000x1, .f32⟩
  | 52 => ⟨S6000, .f32⟩
  | 53 => ⟨S6000x1, .f32⟩
  | 54 => ⟨S6000, .f32⟩
  | 55 => ⟨S6000, .f32⟩
  | 56 => ⟨S6000x1, .f32⟩
  | 57 => ⟨S6000, .f32⟩
  | 58 => ⟨S6000x1, .f32⟩
  | 59 => ⟨S6000, .f32⟩
  | 60 => ⟨S6000, .f32⟩
  | 61 => ⟨S6000x1, .f32⟩
  | 62 => ⟨S6000, .f32⟩
  | 63 => ⟨S_, .f32⟩
  | 64 => ⟨S6000, .f32⟩
  | 65 => ⟨S6000, .f32⟩
  | 66 => ⟨S6000, .f32⟩
  | 67 => ⟨S6000x1, .f32⟩
  | 68 => ⟨S6000, .f32⟩
  | 69 => ⟨S_, .f32⟩
  | 70 => ⟨S6000, .f32⟩
  | 71 => ⟨S6000, .f32⟩
  | 72 => ⟨S6000, .f32⟩
  | 73 => ⟨S6000x1, .f32⟩
  | 74 => ⟨S6000, .f32⟩
  | 75 => ⟨S6000x1, .f32⟩
  | 76 => ⟨S6000, .f32⟩
  | 77 => ⟨S6000x1, .f32⟩
  | 78 => ⟨S6000, .f32⟩
  | 79 => ⟨S_, .f32⟩
  | 80 => ⟨S6000, .f32⟩
  | 81 => ⟨S6000, .f32⟩
  | 82 => ⟨S6000x1, .f32⟩
  | 83 => ⟨S6000, .f32⟩
  | 84 => ⟨S_, .f32⟩
  | 85 => ⟨S6000, .f32⟩
  | 86 => ⟨S6000, .f32⟩
  | 87 => ⟨S6000, .f32⟩
  | 88 => ⟨S6000, .f32⟩
  | 89 => ⟨S6000, .f32⟩
  | 90 => ⟨S6000, .f32⟩
  | 91 => ⟨S6000, .f32⟩
  | 92 => ⟨S6000, .f32⟩
  | 93 => ⟨S6000, .f32⟩
  | 94 => ⟨S6000, .f32⟩
  | 95 => ⟨S_, .f32⟩
  | 96 => ⟨S6000, .f32⟩
  | 97 => ⟨S6000, .f32⟩
  | 98 => ⟨S6000, .f32⟩
  | 99 => ⟨S_, .f32⟩
  | 100 => ⟨S6000, .f32⟩
  | 101 => ⟨S6000, .f32⟩
  | 102 => ⟨S6000, .f32⟩
  | 103 => ⟨S_, .f32⟩
  | 104 => ⟨S6000, .f32⟩
  | 105 => ⟨S6000, .f32⟩
  | 106 => ⟨S6000, .f32⟩
  | 107 => ⟨S_, .f32⟩
  | 108 => ⟨S6000, .f32⟩
  | 109 => ⟨S6000, .f32⟩
  | 110 => ⟨S6000, .f32⟩
  | 111 => ⟨S6000x1, .f32⟩
  | 112 => ⟨S6000x1, .f32⟩
  | 113 => ⟨S6000x1, .f32⟩
  | 114 => ⟨S6000x1, .f32⟩
  | 115 => ⟨S6000x4, .f32⟩
  | 116 => ⟨S6000x1, .f32⟩
  | 117 => ⟨S6000, .f32⟩
  | 118 => ⟨S_, .f32⟩
  | 119 => ⟨S6000, .f32⟩
  | 120 => ⟨S6000, .f32⟩
  | 121 => ⟨S_, .f32⟩
  | 122 => ⟨S6000, .f32⟩
  | 123 => ⟨S6000, .f32⟩
  | 124 => ⟨S6000x1, .f32⟩
  | 125 => ⟨S6000, .f32⟩
  | 126 => ⟨S_, .f32⟩
  | 127 => ⟨S6000, .f32⟩
  | _ => ⟨S20000x4, .f32⟩

abbrev hbmTy0_1 (i : Nat) : BufTy := match i % 128 with
  | 0 => ⟨S6000, .f32⟩
  | 1 => ⟨S_, .f32⟩
  | 2 => ⟨S6000, .f32⟩
  | 3 => ⟨S6000, .f32⟩
  | 4 => ⟨S6000x1, .f32⟩
  | 5 => ⟨S6000, .f32⟩
  | 6 => ⟨S_, .f32⟩
  | 7 => ⟨S6000, .f32⟩
  | 8 => ⟨S6000, .f32⟩
  | 9 => ⟨S_, .f32⟩
  | 10 => ⟨S6000, .f32⟩
  | 11 => ⟨S6000, .f32⟩
  | 12 => ⟨S6000x1, .f32⟩
  | 13 => ⟨S6000, .f32⟩
  | 14 => ⟨S_, .f32⟩
  | 15 => ⟨S6000, .f32⟩
  | 16 => ⟨S6000, .f32⟩
  | 17 => ⟨S_, .f32⟩
  | 18 => ⟨S6000, .f32⟩
  | 19 => ⟨S6000, .f32⟩
  | 20 => ⟨S6000x1, .f32⟩
  | 21 => ⟨S6000x1, .f32⟩
  | 22 => ⟨S6000x1, .f32⟩
  | 23 => ⟨S6000x1, .f32⟩
  | 24 => ⟨S6000x4, .f32⟩
  | 25 => ⟨S6000, .f32⟩
  | 26 => ⟨S_, .f32⟩
  | 27 => ⟨S6000, .f32⟩
  | 28 => ⟨S6000, .i1⟩
  | 29 => ⟨S6000, .f32⟩
  | 30 => ⟨S_, .f32⟩
  | 31 => ⟨S6000, .f32⟩
  | 32 => ⟨S6000, .i1⟩
  | 33 => ⟨S6000, .i1⟩
  | 34 => ⟨S_, .f32⟩
  | 35 => ⟨S_, .f32⟩
  | 36 => ⟨S6000, .f32⟩
  | 37 => ⟨S6000, .f32⟩
  | 38 => ⟨S6000, .f32⟩
  | 39 => ⟨S6000, .i32⟩
  | 40 => ⟨S6000, .f32⟩
  | 41 => ⟨S6000, .i32⟩
  | 42 => ⟨S_, .i32⟩
  | 43 => ⟨S6000, .i32⟩
  | 44 => ⟨S6000, .i1⟩
  | 45 => ⟨S_, .i32⟩
  | 46 => ⟨S6000, .i32⟩
  | 47 => ⟨S6000, .i32⟩
  | 48 => ⟨S6000, .i32⟩
  | 49 => ⟨S6000x1, .i32⟩
  | 50 => ⟨S1, .i32⟩
  | 51 => ⟨S_, .i32⟩
  | 52 => ⟨S6000x1, .i32⟩
  | 53 => ⟨S6000x1, .i1⟩
  | 54 => ⟨S1x1, .i32⟩
  | 55 => ⟨S6000x1, .i32⟩
  | 56 => ⟨S6000x1, .i1⟩
  | 57 => ⟨S6000x1, .i1⟩
  | 58 => ⟨S_, .i1⟩
  | 59 => ⟨S6000, .i1⟩
  | 60 => ⟨S6000x4, .f32⟩
  | 61 => ⟨S6000x4, .i1⟩
  | 62 => ⟨S_, .f32⟩
  | 63 => ⟨S6000x4, .f32⟩
  | 64 => ⟨S6000x4, .f32⟩
  | 65 => ⟨S_, .i32⟩
  | 66 => ⟨S6000, .i32⟩
  | 67 => ⟨S6000, .i1⟩
  | 68 => ⟨S_, .i32⟩
  | 69 => ⟨S6000, .i32⟩
  | 70 => ⟨S6000, .i32⟩
  | 71 => ⟨S6000, .i32⟩
  | 72 => ⟨S6000x1, .i32⟩
  | 73 => ⟨S1, .i32⟩
  | 74 => ⟨S_, .i32⟩
  | 75 => ⟨S6000x1, .i32⟩
  | 76 => ⟨S6000x1, .i1⟩
  | 77 => ⟨S1x1, .i32⟩
  | 78 => ⟨S6000x1, .i32⟩
  | 79 => ⟨S6000x1, .i1⟩
  | 80 => ⟨S6000x1, .i1⟩
  | 81 => ⟨S_, .i1⟩
  | 82 => ⟨S6000, .i1⟩
  | 83 => ⟨S6000, .f32⟩
  | 84 => ⟨S_, .f32⟩
  | 85 => ⟨S6000, .f32⟩
  | 86 => ⟨S6000, .f32⟩
  | 87 => ⟨S6000x1, .f32⟩
  | 88 => ⟨S6000, .f32⟩
  | 89 => ⟨S6000x1, .f32⟩
  | 90 => ⟨S6000, .f32⟩
  | 91 => ⟨S6000, .f32⟩
  | 92 => ⟨S6000x1, .f32⟩
  | 93 => ⟨S6000, .f32⟩
  | 94 => ⟨S6000x1, .f32⟩
  | 95 => ⟨S6000, .f32⟩
  | 96 => ⟨S6000, .f32⟩
  | 97 => ⟨S6000, .f32⟩
  | 98 => ⟨S6000, .i32⟩
  | 99 => ⟨S_, .i1⟩
  | 100 => ⟨S6000, .i1⟩
  | 101 => ⟨S_, .i32⟩
  | 102 => ⟨S_, .i32⟩
  | 103 => ⟨S6000x4, .f32⟩
  | 104 => ⟨S6000, .f32⟩
  | 105 => ⟨S6000, .i32⟩
  | 106 => ⟨S_, .i32⟩
  | 107 => ⟨S_, .i32⟩
  | 108 => ⟨S6000, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x1, .f32⟩
  | _ => ⟨S20000x4, .f32⟩

abbrev hbmTy0_2 (i : Nat) : BufTy := match i % 128 with
  | 0 => ⟨S_, .f32⟩
  | 1 => ⟨S6000x1, .f32⟩
  | 2 => ⟨S6000, .f32⟩
  | 3 => ⟨S6000, .f32⟩
  | 4 => ⟨S6000, .f32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S1x1, .f32⟩
  | 20 => ⟨S_, .f32⟩
  | 21 => ⟨S6000x1, .f32⟩
  | 22 => ⟨S6000, .f32⟩
  | 23 => ⟨S6000, .f32⟩
  | 24 => ⟨S6000, .f32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x1, .f32⟩
  | 40 => ⟨S_, .f32⟩
  | 41 => ⟨S6000x1, .f32⟩
  | 42 => ⟨S6000, .f32⟩
  | 43 => ⟨S6000, .f32⟩
  | 44 => ⟨S6000, .f32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x1, .f32⟩
  | 60 => ⟨S_, .f32⟩
  | 61 => ⟨S6000x1, .f32⟩
  | 62 => ⟨S6000, .f32⟩
  | 63 => ⟨S6000, .f32⟩
  | 64 => ⟨S6000, .f32⟩
  | 65 => ⟨S6000, .f32⟩
  | 66 => ⟨S_, .f32⟩
  | 67 => ⟨S6000, .f32⟩
  | 68 => ⟨S6000, .f32⟩
  | 69 => ⟨S6000, .f32⟩
  | 70 => ⟨S_, .f32⟩
  | 71 => ⟨S6000, .f32⟩
  | 72 => ⟨S6000, .f32⟩
  | 73 => ⟨S6000, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1, .f32⟩
  | 81 => ⟨S_, .f32⟩
  | 82 => ⟨S6000, .f32⟩
  | 83 => ⟨S6000, .f32⟩
  | 84 => ⟨S6000, .f32⟩
  | 85 => ⟨S_, .f32⟩
  | 86 => ⟨S6000, .f32⟩
  | 87 => ⟨S6000, .f32⟩
  | 88 => ⟨S6000, .f32⟩
  | 89 => ⟨S_, .f32⟩
  | 90 => ⟨S6000, .f32⟩
  | 91 => ⟨S6000, .i1⟩
  | 92 => ⟨S_, .i32⟩
  | 93 => ⟨S6000, .i32⟩
  | 94 => ⟨S6000, .i1⟩
  | 95 => ⟨S6000, .i1⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1, .i1⟩
  | 103 => ⟨S_, .i1⟩
  | 104 => ⟨S6000, .i1⟩
  | 105 => ⟨S6000, .i1⟩
  | 106 => ⟨S6000, .i1⟩
  | 107 => ⟨S6000, .i1⟩
  | 108 => ⟨S_, .i32⟩
  | 109 => ⟨S_, .i32⟩
  | 110 => ⟨S6000, .f32⟩
  | 111 => ⟨S_, .f32⟩
  | 112 => ⟨S6000, .f32⟩
  | 113 => ⟨S6000, .i1⟩
  | 114 => ⟨S6000, .i1⟩
  | 115 => ⟨S_, .f32⟩
  | 116 => ⟨S_, .f32⟩
  | 117 => ⟨S6000, .f32⟩
  | 118 => ⟨S6000, .f32⟩
  | 119 => ⟨S1000, .f32⟩
  | 120 => ⟨S1000, .i32⟩
  | 121 => ⟨S_, .i32⟩
  | 122 => ⟨S1000, .i32⟩
  | 123 => ⟨S1000, .i1⟩
  | 124 => ⟨S_, .i32⟩
  | 125 => ⟨S1000, .i32⟩
  | 126 => ⟨S1000, .i32⟩
  | 127 => ⟨S1000, .i32⟩
  | _ => ⟨S20000x4, .f32⟩

abbrev hbmTy0_3 (i : Nat) : BufTy := match i % 128 with
  | 0 => ⟨S1000x1, .i32⟩
  | 1 => ⟨S1, .i32⟩
  | 2 => ⟨S_, .i32⟩
  | 3 => ⟨S1000x1, .i32⟩
  | 4 => ⟨S1000x1, .i1⟩
  | 5 => ⟨S1x1, .i32⟩
  | 6 => ⟨S1000x1, .i32⟩
  | 7 => ⟨S1000x1, .i1⟩
  | 8 => ⟨S1000x1, .i1⟩
  | 9 => ⟨S_, .i1⟩
  | 10 => ⟨S1000, .i1⟩
  | 11 => ⟨S1000x4, .f32⟩
  | 12 => ⟨S1000x4, .i1⟩
  | 13 => ⟨S_, .f32⟩
  | 14 => ⟨S1000x4, .f32⟩
  | 15 => ⟨S1000x4, .f32⟩
  | 16 => ⟨S1000x4, .f32⟩
  | _ => ⟨S20000x4, .f32⟩

abbrev hbmTy (i : Nat) : BufTy := match i / 128 with
  | 0 => hbmTy0_0 i
  | 1 => hbmTy0_1 i
  | 2 => hbmTy0_2 i
  | 3 => hbmTy0_3 i
  | _ => ⟨S20000x4, .f32⟩

abbrev bufTy : (tb : Table) → Fin (tcTables nBuf tb) → BufTy
  | .hbm, ⟨i, _⟩ => hbmTy i
  | .local _ .vmem, ⟨0, _⟩ => ⟨S1000x4, .f32⟩
  | .local _ .vmem, ⟨1, _⟩ => ⟨S1000x4, .f32⟩
  | _, _ => ⟨S20000x4, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_cst_0 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_1 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_2 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_3 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_4 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_5 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_6 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_7 : Ref sig .tc := ⟨.hbm, 118, rfl⟩
abbrev main_v61 : Ref sig .tc := ⟨.hbm, 119, rfl⟩
abbrev main_v62 : Ref sig .tc := ⟨.hbm, 120, rfl⟩
abbrev main_cst_8 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_9 : Ref sig .tc := ⟨.hbm, 126, rfl⟩
abbrev main_v67 : Ref sig .tc := ⟨.hbm, 127, rfl⟩
abbrev main_v68 : Ref sig .tc := ⟨.hbm, 128, rfl⟩
abbrev main_cst_10 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_11 : Ref sig .tc := ⟨.hbm, 134, rfl⟩
abbrev main_v73 : Ref sig .tc := ⟨.hbm, 135, rfl⟩
abbrev main_v74 : Ref sig .tc := ⟨.hbm, 136, rfl⟩
abbrev main_cst_12 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_13 : Ref sig .tc := ⟨.hbm, 142, rfl⟩
abbrev main_v79 : Ref sig .tc := ⟨.hbm, 143, rfl⟩
abbrev main_v80 : Ref sig .tc := ⟨.hbm, 144, rfl⟩
abbrev main_cst_14 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_15 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_16 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_17 : Ref sig .tc := ⟨.hbm, 162, rfl⟩
abbrev main_call2_v0 : Ref sig .tc := ⟨.hbm, 163, rfl⟩
abbrev main_call2_v1 : Ref sig .tc := ⟨.hbm, 164, rfl⟩
abbrev main_v95 : Ref sig .tc := ⟨.hbm, 165, rfl⟩
abbrev main_v96 : Ref sig .tc := ⟨.hbm, 166, rfl⟩
abbrev main_call3_v0 : Ref sig .tc := ⟨.hbm, 167, rfl⟩
abbrev main_call3_v1_0 : Ref sig .tc := ⟨.hbm, 168, rfl⟩
abbrev main_v97 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_v14 : Ref sig .tc := ⟨.hbm, 189, rfl⟩
abbrev main_call4_cst : Ref sig .tc := ⟨.hbm, 190, rfl⟩
abbrev main_call4_v15 : Ref sig .tc := ⟨.hbm, 191, rfl⟩
abbrev main_v98 : Ref sig .tc := ⟨.hbm, 192, rfl⟩
abbrev main_call5_c : Ref sig .tc := ⟨.hbm, 193, rfl⟩
abbrev main_call5_v0 : Ref sig .tc := ⟨.hbm, 194, rfl⟩
abbrev main_call5_v1 : Ref sig .tc := ⟨.hbm, 195, rfl⟩
abbrev main_call5_c_0 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_c_1 : Ref sig .tc := ⟨.hbm, 201, rfl⟩
abbrev main_call5_c_2 : Ref sig .tc := ⟨.hbm, 202, rfl⟩
abbrev main_call5_v6 : Ref sig .tc := ⟨.hbm, 203, rfl⟩
abbrev main_call5_v7 : Ref sig .tc := ⟨.hbm, 204, rfl⟩
abbrev main_call5_v8 : Ref sig .tc := ⟨.hbm, 205, rfl⟩
abbrev main_call5_v9 : Ref sig .tc := ⟨.hbm, 206, rfl⟩
abbrev main_call5_v10 : Ref sig .tc := ⟨.hbm, 207, rfl⟩
abbrev main_call5_v11 : Ref sig .tc := ⟨.hbm, 208, rfl⟩
abbrev main_call5_c_3 : Ref sig .tc := ⟨.hbm, 209, rfl⟩
abbrev main_call5_v12 : Ref sig .tc := ⟨.hbm, 210, rfl⟩
abbrev main_call5_v13 : Ref sig .tc := ⟨.hbm, 211, rfl⟩
abbrev main_call5_cst : Ref sig .tc := ⟨.hbm, 212, rfl⟩
abbrev main_call5_v14 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_c : Ref sig .tc := ⟨.hbm, 227, rfl⟩
abbrev main_v112 : Ref sig .tc := ⟨.hbm, 228, rfl⟩
abbrev main_c_18 : Ref sig .tc := ⟨.hbm, 229, rfl⟩
abbrev main_c_19 : Ref sig .tc := ⟨.hbm, 230, rfl⟩
abbrev main_v113_0 : Ref sig .tc := ⟨.hbm, 231, rfl⟩
abbrev main_v113_1 : Ref sig .tc := ⟨.hbm, 232, rfl⟩
abbrev main_v113_2 : Ref sig .tc := ⟨.hbm, 233, rfl⟩
abbrev main_v113_3 : Ref sig .tc := ⟨.hbm, 234, rfl⟩
abbrev main_v113_4 : Ref sig .tc := ⟨.hbm, 235, rfl⟩
abbrev main_v113_5 : Ref sig .tc := ⟨.hbm, 236, rfl⟩
abbrev main_while0c_c_29 : Ref sig .tc := ⟨.hbm, 237, rfl⟩
abbrev main_while0c_v121 : Ref sig .tc := ⟨.hbm, 238, rfl⟩
abbrev main_while0b_c_29 : Ref sig .tc := ⟨.hbm, 239, rfl⟩
abbrev main_while0b_v121 : Ref sig .tc := ⟨.hbm, 240, rfl⟩
abbrev main_while0b_v122 : Ref sig .tc := ⟨.hbm, 241, rfl⟩
abbrev main_while0b_c_30 : Ref sig .tc := ⟨.hbm, 242, rfl⟩
abbrev main_while0b_v123 : Ref sig .tc := ⟨.hbm, 243, rfl⟩
abbrev main_while0b_c_31 : Ref sig .tc := ⟨.hbm, 244, rfl⟩
abbrev main_while0b_v124 : Ref sig .tc := ⟨.hbm, 245, rfl⟩
abbrev main_while0b_v125 : Ref sig .tc := ⟨.hbm, 246, rfl⟩
abbrev main_while0b_c_32 : Ref sig .tc := ⟨.hbm, 247, rfl⟩
abbrev main_while0b_c_33 : Ref sig .tc := ⟨.hbm, 248, rfl⟩
abbrev main_while0b_v126 : Ref sig .tc := ⟨.hbm, 249, rfl⟩
abbrev main_while0b_c_34 : Ref sig .tc := ⟨.hbm, 250, rfl⟩
abbrev main_while0b_c_35 : Ref sig .tc := ⟨.hbm, 251, rfl⟩
abbrev main_while0b_v127 : Ref sig .tc := ⟨.hbm, 252, rfl⟩
abbrev main_while0b_c_36 : Ref sig .tc := ⟨.hbm, 253, rfl⟩
abbrev main_while0b_v128 : Ref sig .tc := ⟨.hbm, 254, rfl⟩
abbrev main_while0b_v129 : Ref sig .tc := ⟨.hbm, 255, rfl⟩
abbrev main_while0b_v130 : Ref sig .tc := ⟨.hbm, 256, rfl⟩
abbrev main_while0b_v131 : Ref sig .tc := ⟨.hbm, 257, rfl⟩
abbrev main_while0b_v132 : Ref sig .tc := ⟨.hbm, 258, rfl⟩
abbrev main_while0b_v133 : Ref sig .tc := ⟨.hbm, 259, rfl⟩
abbrev main_while0b_v134 : Ref sig .tc := ⟨.hbm, 260, rfl⟩
abbrev main_while0b_v135 : Ref sig .tc := ⟨.hbm, 261, rfl⟩
abbrev main_while0b_c_37 : Ref sig .tc := ⟨.hbm, 262, rfl⟩
abbrev main_while0b_v136 : Ref sig .tc := ⟨.hbm, 263, rfl⟩
abbrev main_while0b_c_38 : Ref sig .tc := ⟨.hbm, 264, rfl⟩
abbrev main_while0b_v137 : Ref sig .tc := ⟨.hbm, 265, rfl⟩
abbrev main_while0b_v138 : Ref sig .tc := ⟨.hbm, 266, rfl⟩
abbrev main_while0b_c_39 : Ref sig .tc := ⟨.hbm, 267, rfl⟩
abbrev main_while0b_c_40 : Ref sig .tc := ⟨.hbm, 268, rfl⟩
abbrev main_while0b_v139 : Ref sig .tc := ⟨.hbm, 269, rfl⟩
abbrev main_while0b_c_41 : Ref sig .tc := ⟨.hbm, 270, rfl⟩
abbrev main_while0b_c_42 : Ref sig .tc := ⟨.hbm, 271, rfl⟩
abbrev main_while0b_v140 : Ref sig .tc := ⟨.hbm, 272, rfl⟩
abbrev main_while0b_c_43 : Ref sig .tc := ⟨.hbm, 273, rfl⟩
abbrev main_while0b_v141 : Ref sig .tc := ⟨.hbm, 274, rfl⟩
abbrev main_while0b_v142 : Ref sig .tc := ⟨.hbm, 275, rfl⟩
abbrev main_while0b_v143 : Ref sig .tc := ⟨.hbm, 276, rfl⟩
abbrev main_while0b_v144 : Ref sig .tc := ⟨.hbm, 277, rfl⟩
abbrev main_while0b_v145 : Ref sig .tc := ⟨.hbm, 278, rfl⟩
abbrev main_while0b_v146 : Ref sig .tc := ⟨.hbm, 279, rfl⟩
abbrev main_while0b_v147 : Ref sig .tc := ⟨.hbm, 280, rfl⟩
abbrev main_while0b_v148 : Ref sig .tc := ⟨.hbm, 281, rfl⟩
abbrev main_while0b_c_44 : Ref sig .tc := ⟨.hbm, 282, rfl⟩
abbrev main_while0b_v149 : Ref sig .tc := ⟨.hbm, 283, rfl⟩
abbrev main_while0b_c_45 : Ref sig .tc := ⟨.hbm, 284, rfl⟩
abbrev main_while0b_v150 : Ref sig .tc := ⟨.hbm, 285, rfl⟩
abbrev main_while0b_v151 : Ref sig .tc := ⟨.hbm, 286, rfl⟩
abbrev main_while0b_c_46 : Ref sig .tc := ⟨.hbm, 287, rfl⟩
abbrev main_while0b_c_47 : Ref sig .tc := ⟨.hbm, 288, rfl⟩
abbrev main_while0b_v152 : Ref sig .tc := ⟨.hbm, 289, rfl⟩
abbrev main_while0b_c_48 : Ref sig .tc := ⟨.hbm, 290, rfl⟩
abbrev main_while0b_c_49 : Ref sig .tc := ⟨.hbm, 291, rfl⟩
abbrev main_while0b_v153 : Ref sig .tc := ⟨.hbm, 292, rfl⟩
abbrev main_while0b_c_50 : Ref sig .tc := ⟨.hbm, 293, rfl⟩
abbrev main_while0b_v154 : Ref sig .tc := ⟨.hbm, 294, rfl⟩
abbrev main_while0b_v155 : Ref sig .tc := ⟨.hbm, 295, rfl⟩
abbrev main_while0b_v156 : Ref sig .tc := ⟨.hbm, 296, rfl⟩
abbrev main_while0b_v157 : Ref sig .tc := ⟨.hbm, 297, rfl⟩
abbrev main_while0b_v158 : Ref sig .tc := ⟨.hbm, 298, rfl⟩
abbrev main_while0b_v159 : Ref sig .tc := ⟨.hbm, 299, rfl⟩
abbrev main_while0b_v160 : Ref sig .tc := ⟨.hbm, 300, rfl⟩
abbrev main_while0b_v161 : Ref sig .tc := ⟨.hbm, 301, rfl⟩
abbrev main_while0b_c_51 : Ref sig .tc := ⟨.hbm, 302, rfl⟩
abbrev main_while0b_v162 : Ref sig .tc := ⟨.hbm, 303, rfl⟩
abbrev main_while0b_c_52 : Ref sig .tc := ⟨.hbm, 304, rfl⟩
abbrev main_while0b_v163 : Ref sig .tc := ⟨.hbm, 305, rfl⟩
abbrev main_while0b_v164 : Ref sig .tc := ⟨.hbm, 306, rfl⟩
abbrev main_while0b_c_53 : Ref sig .tc := ⟨.hbm, 307, rfl⟩
abbrev main_while0b_c_54 : Ref sig .tc := ⟨.hbm, 308, rfl⟩
abbrev main_while0b_v165 : Ref sig .tc := ⟨.hbm, 309, rfl⟩
abbrev main_while0b_c_55 : Ref sig .tc := ⟨.hbm, 310, rfl⟩
abbrev main_while0b_c_56 : Ref sig .tc := ⟨.hbm, 311, rfl⟩
abbrev main_while0b_v166 : Ref sig .tc := ⟨.hbm, 312, rfl⟩
abbrev main_while0b_c_57 : Ref sig .tc := ⟨.hbm, 313, rfl⟩
abbrev main_while0b_v167 : Ref sig .tc := ⟨.hbm, 314, rfl⟩
abbrev main_while0b_v168 : Ref sig .tc := ⟨.hbm, 315, rfl⟩
abbrev main_while0b_v169 : Ref sig .tc := ⟨.hbm, 316, rfl⟩
abbrev main_while0b_v170 : Ref sig .tc := ⟨.hbm, 317, rfl⟩
abbrev main_while0b_v171 : Ref sig .tc := ⟨.hbm, 318, rfl⟩
abbrev main_while0b_v172 : Ref sig .tc := ⟨.hbm, 319, rfl⟩
abbrev main_while0b_v173 : Ref sig .tc := ⟨.hbm, 320, rfl⟩
abbrev main_while0b_v174 : Ref sig .tc := ⟨.hbm, 321, rfl⟩
abbrev main_while0b_cst_58 : Ref sig .tc := ⟨.hbm, 322, rfl⟩
abbrev main_while0b_v175 : Ref sig .tc := ⟨.hbm, 323, rfl⟩
abbrev main_while0b_v176 : Ref sig .tc := ⟨.hbm, 324, rfl⟩
abbrev main_while0b_v177 : Ref sig .tc := ⟨.hbm, 325, rfl⟩
abbrev main_while0b_cst_59 : Ref sig .tc := ⟨.hbm, 326, rfl⟩
abbrev main_while0b_v178 : Ref sig .tc := ⟨.hbm, 327, rfl⟩
abbrev main_while0b_v179 : Ref sig .tc := ⟨.hbm, 328, rfl⟩
abbrev main_while0b_v180 : Ref sig .tc := ⟨.hbm, 329, rfl⟩
abbrev main_while0b_c_60 : Ref sig .tc := ⟨.hbm, 330, rfl⟩
abbrev main_while0b_v181 : Ref sig .tc := ⟨.hbm, 331, rfl⟩
abbrev main_while0b_v182 : Ref sig .tc := ⟨.hbm, 332, rfl⟩
abbrev main_while0b_c_61 : Ref sig .tc := ⟨.hbm, 333, rfl⟩
abbrev main_while0b_v183 : Ref sig .tc := ⟨.hbm, 334, rfl⟩
abbrev main_while0b_v184 : Ref sig .tc := ⟨.hbm, 335, rfl⟩
abbrev main_while0b_v185 : Ref sig .tc := ⟨.hbm, 336, rfl⟩
abbrev main_while0b_v186 : Ref sig .tc := ⟨.hbm, 337, rfl⟩
abbrev main_while0b_v187 : Ref sig .tc := ⟨.hbm, 338, rfl⟩
abbrev main_while0b_v188 : Ref sig .tc := ⟨.hbm, 339, rfl⟩
abbrev main_while0b_v189 : Ref sig .tc := ⟨.hbm, 340, rfl⟩
abbrev main_while0b_cst_62 : Ref sig .tc := ⟨.hbm, 341, rfl⟩
abbrev main_while0b_v190 : Ref sig .tc := ⟨.hbm, 342, rfl⟩
abbrev main_while0b_v191 : Ref sig .tc := ⟨.hbm, 343, rfl⟩
abbrev main_while0b_v192 : Ref sig .tc := ⟨.hbm, 344, rfl⟩
abbrev main_while0b_cst_63 : Ref sig .tc := ⟨.hbm, 345, rfl⟩
abbrev main_while0b_v193 : Ref sig .tc := ⟨.hbm, 346, rfl⟩
abbrev main_while0b_v194 : Ref sig .tc := ⟨.hbm, 347, rfl⟩
abbrev main_while0b_v195 : Ref sig .tc := ⟨.hbm, 348, rfl⟩
abbrev main_while0b_v196 : Ref sig .tc := ⟨.hbm, 349, rfl⟩
abbrev main_while0b_v197 : Ref sig .tc := ⟨.hbm, 350, rfl⟩
abbrev main_while0b_v198 : Ref sig .tc := ⟨.hbm, 351, rfl⟩
abbrev main_while0b_c_64 : Ref sig .tc := ⟨.hbm, 352, rfl⟩
abbrev main_while0b_v199 : Ref sig .tc := ⟨.hbm, 353, rfl⟩
abbrev main_while0b_v200 : Ref sig .tc := ⟨.hbm, 354, rfl⟩
abbrev main_while0b_c_65 : Ref sig .tc := ⟨.hbm, 355, rfl⟩
abbrev main_while0b_v201 : Ref sig .tc := ⟨.hbm, 356, rfl⟩
abbrev main_while0b_v202 : Ref sig .tc := ⟨.hbm, 357, rfl⟩
abbrev main_while0b_v203 : Ref sig .tc := ⟨.hbm, 358, rfl⟩
abbrev main_while0b_v204 : Ref sig .tc := ⟨.hbm, 359, rfl⟩
abbrev main_while0b_v205 : Ref sig .tc := ⟨.hbm, 360, rfl⟩
abbrev main_while0b_v206 : Ref sig .tc := ⟨.hbm, 361, rfl⟩
abbrev main_while0b_v207 : Ref sig .tc := ⟨.hbm, 362, rfl⟩
abbrev main_while0b_v208 : Ref sig .tc := ⟨.hbm, 363, rfl⟩
abbrev main_while0b_c_66 : Ref sig .tc := ⟨.hbm, 364, rfl⟩
abbrev main_while0b_v209 : Ref sig .tc := ⟨.hbm, 365, rfl⟩
abbrev main_v114 : Ref sig .tc := ⟨.hbm, 366, rfl⟩
abbrev main_cst_20 : Ref sig .tc := ⟨.hbm, 367, rfl⟩
abbrev main_v115 : Ref sig .tc := ⟨.hbm, 368, rfl⟩
abbrev main_v116 : Ref sig .tc := ⟨.hbm, 369, rfl⟩
abbrev main_v117 : Ref sig .tc := ⟨.hbm, 370, rfl⟩
abbrev main_cst_21 : Ref sig .tc := ⟨.hbm, 371, rfl⟩
abbrev main_call6_v0 : Ref sig .tc := ⟨.hbm, 372, rfl⟩
abbrev main_call6_v1 : Ref sig .tc := ⟨.hbm, 373, rfl⟩
abbrev main_v118 : Ref sig .tc := ⟨.hbm, 374, rfl⟩
abbrev main_values_22 : Ref sig .tc := ⟨.hbm, 375, rfl⟩
abbrev main_indices_23 : Ref sig .tc := ⟨.hbm, 376, rfl⟩
abbrev main_call7_c : Ref sig .tc := ⟨.hbm, 377, rfl⟩
abbrev main_call7_v0 : Ref sig .tc := ⟨.hbm, 378, rfl⟩
abbrev main_call7_v1 : Ref sig .tc := ⟨.hbm, 379, rfl⟩
abbrev main_call7_c_0 : Ref sig .tc := ⟨.hbm, 380, rfl⟩
abbrev main_call7_v2 : Ref sig .tc := ⟨.hbm, 381, rfl⟩
abbrev main_call7_v3 : Ref sig .tc := ⟨.hbm, 382, rfl⟩
abbrev main_call7_v4 : Ref sig .tc := ⟨.hbm, 383, rfl⟩
abbrev main_call7_v5 : Ref sig .tc := ⟨.hbm, 384, rfl⟩
abbrev main_call7_c_1 : Ref sig .tc := ⟨.hbm, 385, rfl⟩
abbrev main_call7_c_2 : Ref sig .tc := ⟨.hbm, 386, rfl⟩
abbrev main_call7_v6 : Ref sig .tc := ⟨.hbm, 387, rfl⟩
abbrev main_call7_v7 : Ref sig .tc := ⟨.hbm, 388, rfl⟩
abbrev main_call7_v8 : Ref sig .tc := ⟨.hbm, 389, rfl⟩
abbrev main_call7_v9 : Ref sig .tc := ⟨.hbm, 390, rfl⟩
abbrev main_call7_v10 : Ref sig .tc := ⟨.hbm, 391, rfl⟩
abbrev main_call7_v11 : Ref sig .tc := ⟨.hbm, 392, rfl⟩
abbrev main_call7_c_3 : Ref sig .tc := ⟨.hbm, 393, rfl⟩
abbrev main_call7_v12 : Ref sig .tc := ⟨.hbm, 394, rfl⟩
abbrev main_call7_v13 : Ref sig .tc := ⟨.hbm, 395, rfl⟩
abbrev main_call7_v14 : Ref sig .tc := ⟨.hbm, 396, rfl⟩
abbrev main_call7_cst : Ref sig .tc := ⟨.hbm, 397, rfl⟩
abbrev main_call7_v15 : Ref sig .tc := ⟨.hbm, 398, rfl⟩
abbrev main_v119 : Ref sig .tc := ⟨.hbm, 399, rfl⟩
abbrev main_v120 : Ref sig .tc := ⟨.hbm, 400, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev main_while0_count : Scf.Loop 32 := ⟨0#32, 6000#32, 1#32⟩

abbrev grid0 : Pipeline.Grid := .none

abbrev stage0_0 : Fin 1 → Memref sig .tc .vmem S1000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S6000 : Shape := ⟨1, ![6000]⟩
abbrev S_ : Shape := ⟨0, ![]⟩
abbrev S6000x1 : Shape := ⟨2, ![6000, 1]⟩
abbrev S1 : Shape := ⟨1, ![1]⟩
abbrev S1x1 : Shape := ⟨2, ![1, 1]⟩
abbrev S6000x4 : Shape := ⟨2, ![6000, 4]⟩
abbrev S1x6000 : Shape := ⟨2, ![1, 6000]⟩
abbrev S6000x6000 : Shape := ⟨2, ![6000, 6000]⟩
abbrev S1000 : Shape := ⟨1, ![1000]⟩
abbrev S1000x1 : Shape := ⟨2, ![1000, 1]⟩
abbrev S1000x4 : Shape := ⟨2, ![1000, 4]⟩

abbrev nBuf : Space → Nat
  | .hbm => 359
  | .vmem => 0
  | .smem => 0
  | _ => 0

abbrev hbmTy0_0 (i : Nat) : BufTy := match i % 128 with
  | 0 => ⟨S20000x4, .f32⟩
  | 1 => ⟨S20000x4, .f32⟩
  | 2 => ⟨S20000, .f32⟩
  | 3 => ⟨S6000, .f32⟩
  | 4 => ⟨S6000, .i32⟩
  | 5 => ⟨S_, .i32⟩
  | 6 => ⟨S6000, .i32⟩
  | 7 => ⟨S6000, .i1⟩
  | 8 => ⟨S_, .i32⟩
  | 9 => ⟨S6000, .i32⟩
  | 10 => ⟨S6000, .i32⟩
  | 11 => ⟨S6000, .i32⟩
  | 12 => ⟨S6000x1, .i32⟩
  | 13 => ⟨S1, .i32⟩
  | 14 => ⟨S_, .i32⟩
  | 15 => ⟨S6000x1, .i32⟩
  | 16 => ⟨S6000x1, .i1⟩
  | 17 => ⟨S1x1, .i32⟩
  | 18 => ⟨S6000x1, .i32⟩
  | 19 => ⟨S6000x1, .i1⟩
  | 20 => ⟨S6000x1, .i1⟩
  | 21 => ⟨S_, .i1⟩
  | 22 => ⟨S6000, .i1⟩
  | 23 => ⟨S6000x4, .f32⟩
  | 24 => ⟨S6000x4, .i1⟩
  | 25 => ⟨S_, .f32⟩
  | 26 => ⟨S6000x4, .f32⟩
  | 27 => ⟨S6000x4, .f32⟩
  | 28 => ⟨S_, .i32⟩
  | 29 => ⟨S6000, .i32⟩
  | 30 => ⟨S6000, .i1⟩
  | 31 => ⟨S_, .i32⟩
  | 32 => ⟨S6000, .i32⟩
  | 33 => ⟨S6000, .i32⟩
  | 34 => ⟨S6000, .i32⟩
  | 35 => ⟨S6000x1, .i32⟩
  | 36 => ⟨S1, .i32⟩
  | 37 => ⟨S_, .i32⟩
  | 38 => ⟨S6000x1, .i32⟩
  | 39 => ⟨S6000x1, .i1⟩
  | 40 => ⟨S1x1, .i32⟩
  | 41 => ⟨S6000x1, .i32⟩
  | 42 => ⟨S6000x1, .i1⟩
  | 43 => ⟨S6000x1, .i1⟩
  | 44 => ⟨S_, .i1⟩
  | 45 => ⟨S6000, .i1⟩
  | 46 => ⟨S6000x4, .f32⟩
  | 47 => ⟨S6000x4, .i1⟩
  | 48 => ⟨S_, .f32⟩
  | 49 => ⟨S6000x4, .f32⟩
  | 50 => ⟨S6000x4, .f32⟩
  | 51 => ⟨S6000x1, .f32⟩
  | 52 => ⟨S6000, .f32⟩
  | 53 => ⟨S6000x1, .f32⟩
  | 54 => ⟨S6000, .f32⟩
  | 55 => ⟨S6000, .f32⟩
  | 56 => ⟨S6000x1, .f32⟩
  | 57 => ⟨S6000, .f32⟩
  | 58 => ⟨S6000x1, .f32⟩
  | 59 => ⟨S6000, .f32⟩
  | 60 => ⟨S6000, .f32⟩
  | 61 => ⟨S6000x1, .f32⟩
  | 62 => ⟨S6000, .f32⟩
  | 63 => ⟨S_, .f32⟩
  | 64 => ⟨S6000, .f32⟩
  | 65 => ⟨S6000, .f32⟩
  | 66 => ⟨S6000, .f32⟩
  | 67 => ⟨S6000x1, .f32⟩
  | 68 => ⟨S6000, .f32⟩
  | 69 => ⟨S_, .f32⟩
  | 70 => ⟨S6000, .f32⟩
  | 71 => ⟨S6000, .f32⟩
  | 72 => ⟨S6000, .f32⟩
  | 73 => ⟨S6000x1, .f32⟩
  | 74 => ⟨S6000, .f32⟩
  | 75 => ⟨S6000x1, .f32⟩
  | 76 => ⟨S6000, .f32⟩
  | 77 => ⟨S6000x1, .f32⟩
  | 78 => ⟨S6000, .f32⟩
  | 79 => ⟨S_, .f32⟩
  | 80 => ⟨S6000, .f32⟩
  | 81 => ⟨S6000, .f32⟩
  | 82 => ⟨S6000x1, .f32⟩
  | 83 => ⟨S6000, .f32⟩
  | 84 => ⟨S_, .f32⟩
  | 85 => ⟨S6000, .f32⟩
  | 86 => ⟨S6000, .f32⟩
  | 87 => ⟨S6000, .f32⟩
  | 88 => ⟨S6000, .f32⟩
  | 89 => ⟨S6000, .f32⟩
  | 90 => ⟨S6000, .f32⟩
  | 91 => ⟨S6000, .f32⟩
  | 92 => ⟨S6000, .f32⟩
  | 93 => ⟨S6000, .f32⟩
  | 94 => ⟨S6000, .f32⟩
  | 95 => ⟨S_, .f32⟩
  | 96 => ⟨S6000, .f32⟩
  | 97 => ⟨S6000, .f32⟩
  | 98 => ⟨S6000, .f32⟩
  | 99 => ⟨S_, .f32⟩
  | 100 => ⟨S6000, .f32⟩
  | 101 => ⟨S6000, .f32⟩
  | 102 => ⟨S6000, .f32⟩
  | 103 => ⟨S_, .f32⟩
  | 104 => ⟨S6000, .f32⟩
  | 105 => ⟨S6000, .f32⟩
  | 106 => ⟨S6000, .f32⟩
  | 107 => ⟨S_, .f32⟩
  | 108 => ⟨S6000, .f32⟩
  | 109 => ⟨S6000, .f32⟩
  | 110 => ⟨S6000, .f32⟩
  | 111 => ⟨S6000x1, .f32⟩
  | 112 => ⟨S6000x1, .f32⟩
  | 113 => ⟨S6000x1, .f32⟩
  | 114 => ⟨S6000x1, .f32⟩
  | 115 => ⟨S6000x4, .f32⟩
  | 116 => ⟨S6000x1, .f32⟩
  | 117 => ⟨S6000, .f32⟩
  | 118 => ⟨S_, .f32⟩
  | 119 => ⟨S6000, .f32⟩
  | 120 => ⟨S6000, .f32⟩
  | 121 => ⟨S_, .f32⟩
  | 122 => ⟨S6000, .f32⟩
  | 123 => ⟨S6000, .f32⟩
  | 124 => ⟨S6000x1, .f32⟩
  | 125 => ⟨S6000, .f32⟩
  | 126 => ⟨S_, .f32⟩
  | 127 => ⟨S6000, .f32⟩
  | _ => ⟨S20000x4, .f32⟩

abbrev hbmTy0_1 (i : Nat) : BufTy := match i % 128 with
  | 0 => ⟨S6000, .f32⟩
  | 1 => ⟨S_, .f32⟩
  | 2 => ⟨S6000, .f32⟩
  | 3 => ⟨S6000, .f32⟩
  | 4 => ⟨S6000x1, .f32⟩
  | 5 => ⟨S6000, .f32⟩
  | 6 => ⟨S_, .f32⟩
  | 7 => ⟨S6000, .f32⟩
  | 8 => ⟨S6000, .f32⟩
  | 9 => ⟨S_, .f32⟩
  | 10 => ⟨S6000, .f32⟩
  | 11 => ⟨S6000, .f32⟩
  | 12 => ⟨S6000x1, .f32⟩
  | 13 => ⟨S6000, .f32⟩
  | 14 => ⟨S_, .f32⟩
  | 15 => ⟨S6000, .f32⟩
  | 16 => ⟨S6000, .f32⟩
  | 17 => ⟨S_, .f32⟩
  | 18 => ⟨S6000, .f32⟩
  | 19 => ⟨S6000, .f32⟩
  | 20 => ⟨S6000x1, .f32⟩
  | 21 => ⟨S6000x1, .f32⟩
  | 22 => ⟨S6000x1, .f32⟩
  | 23 => ⟨S6000x1, .f32⟩
  | 24 => ⟨S6000x4, .f32⟩
  | 25 => ⟨S6000, .f32⟩
  | 26 => ⟨S_, .f32⟩
  | 27 => ⟨S6000, .f32⟩
  | 28 => ⟨S6000, .i1⟩
  | 29 => ⟨S6000, .f32⟩
  | 30 => ⟨S_, .f32⟩
  | 31 => ⟨S6000, .f32⟩
  | 32 => ⟨S6000, .i1⟩
  | 33 => ⟨S6000, .i1⟩
  | 34 => ⟨S_, .f32⟩
  | 35 => ⟨S_, .f32⟩
  | 36 => ⟨S6000, .f32⟩
  | 37 => ⟨S6000, .f32⟩
  | 38 => ⟨S6000, .f32⟩
  | 39 => ⟨S6000, .i32⟩
  | 40 => ⟨S6000, .f32⟩
  | 41 => ⟨S6000, .i32⟩
  | 42 => ⟨S_, .i32⟩
  | 43 => ⟨S6000, .i32⟩
  | 44 => ⟨S6000, .i1⟩
  | 45 => ⟨S_, .i32⟩
  | 46 => ⟨S6000, .i32⟩
  | 47 => ⟨S6000, .i32⟩
  | 48 => ⟨S6000, .i32⟩
  | 49 => ⟨S6000x1, .i32⟩
  | 50 => ⟨S1, .i32⟩
  | 51 => ⟨S_, .i32⟩
  | 52 => ⟨S6000x1, .i32⟩
  | 53 => ⟨S6000x1, .i1⟩
  | 54 => ⟨S1x1, .i32⟩
  | 55 => ⟨S6000x1, .i32⟩
  | 56 => ⟨S6000x1, .i1⟩
  | 57 => ⟨S6000x1, .i1⟩
  | 58 => ⟨S_, .i1⟩
  | 59 => ⟨S6000, .i1⟩
  | 60 => ⟨S6000x4, .f32⟩
  | 61 => ⟨S6000x4, .i1⟩
  | 62 => ⟨S_, .f32⟩
  | 63 => ⟨S6000x4, .f32⟩
  | 64 => ⟨S6000x4, .f32⟩
  | 65 => ⟨S_, .i32⟩
  | 66 => ⟨S6000, .i32⟩
  | 67 => ⟨S6000, .i1⟩
  | 68 => ⟨S_, .i32⟩
  | 69 => ⟨S6000, .i32⟩
  | 70 => ⟨S6000, .i32⟩
  | 71 => ⟨S6000, .i32⟩
  | 72 => ⟨S6000x1, .i32⟩
  | 73 => ⟨S1, .i32⟩
  | 74 => ⟨S_, .i32⟩
  | 75 => ⟨S6000x1, .i32⟩
  | 76 => ⟨S6000x1, .i1⟩
  | 77 => ⟨S1x1, .i32⟩
  | 78 => ⟨S6000x1, .i32⟩
  | 79 => ⟨S6000x1, .i1⟩
  | 80 => ⟨S6000x1, .i1⟩
  | 81 => ⟨S_, .i1⟩
  | 82 => ⟨S6000, .i1⟩
  | 83 => ⟨S6000, .f32⟩
  | 84 => ⟨S_, .f32⟩
  | 85 => ⟨S6000, .f32⟩
  | 86 => ⟨S6000, .f32⟩
  | 87 => ⟨S6000x1, .f32⟩
  | 88 => ⟨S6000, .f32⟩
  | 89 => ⟨S6000x1, .f32⟩
  | 90 => ⟨S6000, .f32⟩
  | 91 => ⟨S6000, .f32⟩
  | 92 => ⟨S6000x1, .f32⟩
  | 93 => ⟨S6000, .f32⟩
  | 94 => ⟨S6000x1, .f32⟩
  | 95 => ⟨S6000, .f32⟩
  | 96 => ⟨S6000, .f32⟩
  | 97 => ⟨S6000, .f32⟩
  | 98 => ⟨S6000x1, .f32⟩
  | 99 => ⟨S6000, .f32⟩
  | 100 => ⟨S6000x1, .f32⟩
  | 101 => ⟨S6000x1, .f32⟩
  | 102 => ⟨S6000, .f32⟩
  | 103 => ⟨S1x6000, .f32⟩
  | 104 => ⟨S6000x6000, .f32⟩
  | 105 => ⟨S6000x6000, .f32⟩
  | 106 => ⟨S6000x6000, .f32⟩
  | 107 => ⟨S6000x1, .f32⟩
  | 108 => ⟨S6000, .f32⟩
  | 109 => ⟨S6000x1, .f32⟩
  | 110 => ⟨S6000x1, .f32⟩
  | 111 => ⟨S6000, .f32⟩
  | 112 => ⟨S1x6000, .f32⟩
  | 113 => ⟨S6000x6000, .f32⟩
  | 114 => ⟨S6000x6000, .f32⟩
  | 115 => ⟨S6000x6000, .f32⟩
  | 116 => ⟨S6000x1, .f32⟩
  | 117 => ⟨S6000, .f32⟩
  | 118 => ⟨S6000x1, .f32⟩
  | 119 => ⟨S6000x1, .f32⟩
  | 120 => ⟨S6000, .f32⟩
  | 121 => ⟨S1x6000, .f32⟩
  | 122 => ⟨S6000x6000, .f32⟩
  | 123 => ⟨S6000x6000, .f32⟩
  | 124 => ⟨S6000x6000, .f32⟩
  | 125 => ⟨S6000x1, .f32⟩
  | 126 => ⟨S6000, .f32⟩
  | 127 => ⟨S6000x1, .f32⟩
  | _ => ⟨S20000x4, .f32⟩

abbrev hbmTy0_2 (i : Nat) : BufTy := match i % 128 with
  | 0 => ⟨S6000x1, .f32⟩
  | 1 => ⟨S6000, .f32⟩
  | 2 => ⟨S1x6000, .f32⟩
  | 3 => ⟨S6000x6000, .f32⟩
  | 4 => ⟨S6000x6000, .f32⟩
  | 5 => ⟨S6000x6000, .f32⟩
  | 6 => ⟨S6000x6000, .f32⟩
  | 7 => ⟨S_, .f32⟩
  | 8 => ⟨S6000x6000, .f32⟩
  | 9 => ⟨S6000x6000, .f32⟩
  | 10 => ⟨S6000x6000, .f32⟩
  | 11 => ⟨S_, .f32⟩
  | 12 => ⟨S6000x6000, .f32⟩
  | 13 => ⟨S6000x6000, .f32⟩
  | 14 => ⟨S6000x6000, .f32⟩
  | 15 => ⟨S6000x1, .f32⟩
  | 16 => ⟨S1x6000, .f32⟩
  | 17 => ⟨S6000x6000, .f32⟩
  | 18 => ⟨S6000x6000, .f32⟩
  | 19 => ⟨S6000x6000, .f32⟩
  | 20 => ⟨S6000x6000, .f32⟩
  | 21 => ⟨S_, .f32⟩
  | 22 => ⟨S6000x6000, .f32⟩
  | 23 => ⟨S6000x6000, .f32⟩
  | 24 => ⟨S6000x6000, .f32⟩
  | 25 => ⟨S_, .f32⟩
  | 26 => ⟨S6000x6000, .f32⟩
  | 27 => ⟨S6000x6000, .i1⟩
  | 28 => ⟨S6000, .i32⟩
  | 29 => ⟨S_, .i1⟩
  | 30 => ⟨S6000, .i1⟩
  | 31 => ⟨S_, .i32⟩
  | 32 => ⟨S_, .i32⟩
  | 33 => ⟨S6000, .i32⟩
  | 34 => ⟨S6000x6000, .i1⟩
  | 35 => ⟨S_, .i32⟩
  | 36 => ⟨S_, .i32⟩
  | 37 => ⟨S6000, .i1⟩
  | 38 => ⟨S_, .i32⟩
  | 39 => ⟨S_, .i1⟩
  | 40 => ⟨S_, .i32⟩
  | 41 => ⟨S_, .i32⟩
  | 42 => ⟨S_, .i32⟩
  | 43 => ⟨S6000, .i32⟩
  | 44 => ⟨S6000, .i1⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S6000x1, .i1⟩
  | 60 => ⟨S6000, .i1⟩
  | 61 => ⟨S6000, .i1⟩
  | 62 => ⟨S_, .i1⟩
  | 63 => ⟨S_, .i1⟩
  | 64 => ⟨S_, .i1⟩
  | 65 => ⟨S6000, .i1⟩
  | 66 => ⟨S6000, .i1⟩
  | 67 => ⟨S_, .i32⟩
  | 68 => ⟨S_, .i32⟩
  | 69 => ⟨S6000, .f32⟩
  | 70 => ⟨S_, .f32⟩
  | 71 => ⟨S6000, .f32⟩
  | 72 => ⟨S6000, .i1⟩
  | 73 => ⟨S6000, .i1⟩
  | 74 => ⟨S_, .f32⟩
  | 75 => ⟨S_, .f32⟩
  | 76 => ⟨S6000, .f32⟩
  | 77 => ⟨S6000, .f32⟩
  | 78 => ⟨S1000, .f32⟩
  | 79 => ⟨S1000, .i32⟩
  | 80 => ⟨S_, .i32⟩
  | 81 => ⟨S1000, .i32⟩
  | 82 => ⟨S1000, .i1⟩
  | 83 => ⟨S_, .i32⟩
  | 84 => ⟨S1000, .i32⟩
  | 85 => ⟨S1000, .i32⟩
  | 86 => ⟨S1000, .i32⟩
  | 87 => ⟨S1000x1, .i32⟩
  | 88 => ⟨S1, .i32⟩
  | 89 => ⟨S_, .i32⟩
  | 90 => ⟨S1000x1, .i32⟩
  | 91 => ⟨S1000x1, .i1⟩
  | 92 => ⟨S1x1, .i32⟩
  | 93 => ⟨S1000x1, .i32⟩
  | 94 => ⟨S1000x1, .i1⟩
  | 95 => ⟨S1000x1, .i1⟩
  | 96 => ⟨S_, .i1⟩
  | 97 => ⟨S1000, .i1⟩
  | 98 => ⟨S1000x4, .f32⟩
  | 99 => ⟨S1000x4, .i1⟩
  | 100 => ⟨S_, .f32⟩
  | 101 => ⟨S1000x4, .f32⟩
  | 102 => ⟨S1000x4, .f32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_cst_0 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_1 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_2 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_3 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_cst_4 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_5 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_6 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_7 : Ref sig .tc := ⟨.hbm, 118, rfl⟩
abbrev main_v61 : Ref sig .tc := ⟨.hbm, 119, rfl⟩
abbrev main_v62 : Ref sig .tc := ⟨.hbm, 120, rfl⟩
abbrev main_cst_8 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_9 : Ref sig .tc := ⟨.hbm, 126, rfl⟩
abbrev main_v67 : Ref sig .tc := ⟨.hbm, 127, rfl⟩
abbrev main_v68 : Ref sig .tc := ⟨.hbm, 128, rfl⟩
abbrev main_cst_10 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_11 : Ref sig .tc := ⟨.hbm, 134, rfl⟩
abbrev main_v73 : Ref sig .tc := ⟨.hbm, 135, rfl⟩
abbrev main_v74 : Ref sig .tc := ⟨.hbm, 136, rfl⟩
abbrev main_cst_12 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_13 : Ref sig .tc := ⟨.hbm, 142, rfl⟩
abbrev main_v79 : Ref sig .tc := ⟨.hbm, 143, rfl⟩
abbrev main_v80 : Ref sig .tc := ⟨.hbm, 144, rfl⟩
abbrev main_cst_14 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_cst_15 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_16 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_17 : Ref sig .tc := ⟨.hbm, 162, rfl⟩
abbrev main_call2_v0 : Ref sig .tc := ⟨.hbm, 163, rfl⟩
abbrev main_call2_v1 : Ref sig .tc := ⟨.hbm, 164, rfl⟩
abbrev main_v95 : Ref sig .tc := ⟨.hbm, 165, rfl⟩
abbrev main_v96 : Ref sig .tc := ⟨.hbm, 166, rfl⟩
abbrev main_call3_v0 : Ref sig .tc := ⟨.hbm, 167, rfl⟩
abbrev main_call3_v1_0 : Ref sig .tc := ⟨.hbm, 168, rfl⟩
abbrev main_v97 : Ref sig .tc := ⟨.hbm, 169, rfl⟩
abbrev main_call4_c : Ref sig .tc := ⟨.hbm, 170, rfl⟩
abbrev main_call4_v0 : Ref sig .tc := ⟨.hbm, 171, rfl⟩
abbrev main_call4_v1 : Ref sig .tc := ⟨.hbm, 172, rfl⟩
abbrev main_call4_c_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_c_1 : Ref sig .tc := ⟨.hbm, 178, rfl⟩
abbrev main_call4_c_2 : Ref sig .tc := ⟨.hbm, 179, rfl⟩
abbrev main_call4_v6 : Ref sig .tc := ⟨.hbm, 180, rfl⟩
abbrev main_call4_v7 : Ref sig .tc := ⟨.hbm, 181, rfl⟩
abbrev main_call4_v8 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_c_3 : Ref sig .tc := ⟨.hbm, 186, rfl⟩
abbrev main_call4_v12 : Ref sig .tc := ⟨.hbm, 187, rfl⟩
abbrev main_call4_v13 : Ref sig .tc := ⟨.hbm, 188, rfl⟩
abbrev main_call4_v14 : Ref sig .tc := ⟨.hbm, 189, rfl⟩
abbrev main_call4_cst : Ref sig .tc := ⟨.hbm, 190, rfl⟩
abbrev main_call4_v15 : Ref sig .tc := ⟨.hbm, 191, rfl⟩
abbrev main_v98 : Ref sig .tc := ⟨.hbm, 192, rfl⟩
abbrev main_call5_c : Ref sig .tc := ⟨.hbm, 193, rfl⟩
abbrev main_call5_v0 : Ref sig .tc := ⟨.hbm, 194, rfl⟩
abbrev main_call5_v1 : Ref sig .tc := ⟨.hbm, 195, rfl⟩
abbrev main_call5_c_0 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_c_1 : Ref sig .tc := ⟨.hbm, 201, rfl⟩
abbrev main_call5_c_2 : Ref sig .tc := ⟨.hbm, 202, rfl⟩
abbrev main_call5_v6 : Ref sig .tc := ⟨.hbm, 203, rfl⟩
abbrev main_call5_v7 : Ref sig .tc := ⟨.hbm, 204, rfl⟩
abbrev main_call5_v8 : Ref sig .tc := ⟨.hbm, 205, rfl⟩
abbrev main_call5_v9 : Ref sig .tc := ⟨.hbm, 206, rfl⟩
abbrev main_call5_v10 : Ref sig .tc := ⟨.hbm, 207, rfl⟩
abbrev main_call5_v11 : Ref sig .tc := ⟨.hbm, 208, rfl⟩
abbrev main_call5_c_3 : Ref sig .tc := ⟨.hbm, 209, rfl⟩
abbrev main_call5_v12 : Ref sig .tc := ⟨.hbm, 210, rfl⟩
abbrev main_call5_v13 : Ref sig .tc := ⟨.hbm, 211, rfl⟩
abbrev main_call5_cst : Ref sig .tc := ⟨.hbm, 212, rfl⟩
abbrev main_call5_v14 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_cst_18 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_cst_19 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_cst_20 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_cst_21 : Ref sig .tc := ⟨.hbm, 281, rfl⟩
abbrev main_v163 : Ref sig .tc := ⟨.hbm, 282, rfl⟩
abbrev main_v164 : Ref sig .tc := ⟨.hbm, 283, rfl⟩
abbrev main_v165 : Ref sig .tc := ⟨.hbm, 284, rfl⟩
abbrev main_c : Ref sig .tc := ⟨.hbm, 285, rfl⟩
abbrev main_v166 : Ref sig .tc := ⟨.hbm, 286, rfl⟩
abbrev main_c_22 : Ref sig .tc := ⟨.hbm, 287, rfl⟩
abbrev main_c_23 : Ref sig .tc := ⟨.hbm, 288, rfl⟩
abbrev main_v167_0 : Ref sig .tc := ⟨.hbm, 289, rfl⟩
abbrev main_v167_1 : Ref sig .tc := ⟨.hbm, 290, rfl⟩
abbrev main_v167_2 : Ref sig .tc := ⟨.hbm, 291, rfl⟩
abbrev main_v167_3 : Ref sig .tc := ⟨.hbm, 292, rfl⟩
abbrev main_v167_4 : Ref sig .tc := ⟨.hbm, 293, rfl⟩
abbrev main_while0c_c_32 : Ref sig .tc := ⟨.hbm, 294, rfl⟩
abbrev main_while0c_v174 : Ref sig .tc := ⟨.hbm, 295, rfl⟩
abbrev main_while0b_c_32 : Ref sig .tc := ⟨.hbm, 296, rfl⟩
abbrev main_while0b_v174 : Ref sig .tc := ⟨.hbm, 297, rfl⟩
abbrev main_while0b_v175 : Ref sig .tc := ⟨.hbm, 298, rfl⟩
abbrev main_while0b_v176 : Ref sig .tc := ⟨.hbm, 299, rfl⟩
abbrev main_while0b_v177 : Ref sig .tc := ⟨.hbm, 300, rfl⟩
abbrev main_while0b_v178 : Ref sig .tc := ⟨.hbm, 301, rfl⟩
abbrev main_while0b_c_33 : Ref sig .tc := ⟨.hbm, 302, rfl⟩
abbrev main_while0b_c_34 : Ref sig .tc := ⟨.hbm, 303, rfl⟩
abbrev main_while0b_v179 : Ref sig .tc := ⟨.hbm, 304, rfl⟩
abbrev main_while0b_c_35 : Ref sig .tc := ⟨.hbm, 305, rfl⟩
abbrev main_while0b_c_36 : Ref sig .tc := ⟨.hbm, 306, rfl⟩
abbrev main_while0b_v180 : Ref sig .tc := ⟨.hbm, 307, rfl⟩
abbrev main_while0b_c_37 : Ref sig .tc := ⟨.hbm, 308, rfl⟩
abbrev main_while0b_v181 : Ref sig .tc := ⟨.hbm, 309, rfl⟩
abbrev main_while0b_c_38 : Ref sig .tc := ⟨.hbm, 310, rfl⟩
abbrev main_while0b_v182 : Ref sig .tc := ⟨.hbm, 311, rfl⟩
abbrev main_while0b_c_39 : Ref sig .tc := ⟨.hbm, 312, rfl⟩
abbrev main_while0b_v183 : Ref sig .tc := ⟨.hbm, 313, rfl⟩
abbrev main_while0b_v184 : Ref sig .tc := ⟨.hbm, 314, rfl⟩
abbrev main_while0b_v185 : Ref sig .tc := ⟨.hbm, 315, rfl⟩
abbrev main_while0b_v186 : Ref sig .tc := ⟨.hbm, 316, rfl⟩
abbrev main_while0b_v187 : Ref sig .tc := ⟨.hbm, 317, rfl⟩
abbrev main_while0b_c_40 : Ref sig .tc := ⟨.hbm, 318, rfl⟩
abbrev main_while0b_v188 : Ref sig .tc := ⟨.hbm, 319, rfl⟩
abbrev main_while0b_v189 : Ref sig .tc := ⟨.hbm, 320, rfl⟩
abbrev main_while0b_call6_v0 : Ref sig .tc := ⟨.hbm, 321, rfl⟩
abbrev main_while0b_v190 : Ref sig .tc := ⟨.hbm, 322, rfl⟩
abbrev main_while0b_c_41 : Ref sig .tc := ⟨.hbm, 323, rfl⟩
abbrev main_while0b_v191 : Ref sig .tc := ⟨.hbm, 324, rfl⟩
abbrev main_v168 : Ref sig .tc := ⟨.hbm, 325, rfl⟩
abbrev main_cst_24 : Ref sig .tc := ⟨.hbm, 326, rfl⟩
abbrev main_v169 : Ref sig .tc := ⟨.hbm, 327, rfl⟩
abbrev main_v170 : Ref sig .tc := ⟨.hbm, 328, rfl⟩
abbrev main_v171 : Ref sig .tc := ⟨.hbm, 329, rfl⟩
abbrev main_cst_25 : Ref sig .tc := ⟨.hbm, 330, rfl⟩
abbrev main_call7_v0 : Ref sig .tc := ⟨.hbm, 331, rfl⟩
abbrev main_call7_v1 : Ref sig .tc := ⟨.hbm, 332, rfl⟩
abbrev main_v172 : Ref sig .tc := ⟨.hbm, 333, rfl⟩
abbrev main_values_26 : Ref sig .tc := ⟨.hbm, 334, rfl⟩
abbrev main_indices_27 : Ref sig .tc := ⟨.hbm, 335, rfl⟩
abbrev main_call8_c : Ref sig .tc := ⟨.hbm, 336, rfl⟩
abbrev main_call8_v0 : Ref sig .tc := ⟨.hbm, 337, rfl⟩
abbrev main_call8_v1 : Ref sig .tc := ⟨.hbm, 338, rfl⟩
abbrev main_call8_c_0 : Ref sig .tc := ⟨.hbm, 339, rfl⟩
abbrev main_call8_v2 : Ref sig .tc := ⟨.hbm, 340, rfl⟩
abbrev main_call8_v3 : Ref sig .tc := ⟨.hbm, 341, rfl⟩
abbrev main_call8_v4 : Ref sig .tc := ⟨.hbm, 342, rfl⟩
abbrev main_call8_v5 : Ref sig .tc := ⟨.hbm, 343, rfl⟩
abbrev main_call8_c_1 : Ref sig .tc := ⟨.hbm, 344, rfl⟩
abbrev main_call8_c_2 : Ref sig .tc := ⟨.hbm, 345, rfl⟩
abbrev main_call8_v6 : Ref sig .tc := ⟨.hbm, 346, rfl⟩
abbrev main_call8_v7 : Ref sig .tc := ⟨.hbm, 347, rfl⟩
abbrev main_call8_v8 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_call8_c_3 : Ref sig .tc := ⟨.hbm, 352, rfl⟩
abbrev main_call8_v12 : Ref sig .tc := ⟨.hbm, 353, rfl⟩
abbrev main_call8_v13 : Ref sig .tc := ⟨.hbm, 354, rfl⟩
abbrev main_call8_v14 : Ref sig .tc := ⟨.hbm, 355, rfl⟩
abbrev main_call8_cst : Ref sig .tc := ⟨.hbm, 356, rfl⟩
abbrev main_call8_v15 : Ref sig .tc := ⟨.hbm, 357, rfl⟩
abbrev main_v173 : Ref sig .tc := ⟨.hbm, 358, rfl⟩

abbrev nD : Nat := 1
abbrev τ : Topo := Topo.v7x

variable {F : FTy → Type} [FloatOps F]

abbrev main_while0_count : Scf.Loop 32 := ⟨0#32, 6000#32, 1#32⟩
-- ==== Proof.KernelIdealCopy.lean ====
/-
  The kernel's one `pallas_call`, as the program launches it after the host loop: a gridless copy of the 1000 selected
  boxes (`main_v119`) into the result (`main_v120`). Here are the body's run, the launch's data at any contents of
  the buffers, and the launch as a segment that leaves every buffer as it found it but the result, which holds
  the operand's contents.
-/
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Pipeline.ValueKit
public import Idealize.ShloMosaic.Lib.Tactic

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the proof: the launch's, beside the counters. -/
abbrev UU : Type := UR sig nD τ × Counters

local notation "𝕄" => MT nD τ sig Unit (Elt F) ℕ UU ℕ

/-- A buffer seen through a memref on core `c`, and that buffer held whole. -/
abbrev Bf (c : Dev nD) {sp : Space} {S : Shape} {e : EltTy} (M : Memref sig .tc sp S e) : Type := Buf (Elt F) (M.view.loc (c : Thread nD τ))
/-- One buffer's contents, as an assertion about the memory. -/
abbrev pt (c : Dev nD) {sp : Space} {S : Shape} {e : EltTy} (M : Memref sig .tc sp S e) (f : Bf (F := F) c M) : sProp 𝕄 :=
  M.view.loc (c : Thread nD τ) ↦{fullShare} f

/-! ## The body -/

/-- What the body leaves in the result's staging buffer, with the proof that it runs and leaves the operand's as it
    was. -/
noncomputable def copyRun (c : Dev nD) (M0 : Memref sig .tc .vmem S1000x4 .f32) (h0 : M0.IsWhole) (M1 : Memref sig .tc .vmem S1000x4 .f32) (h1 : M1.IsWhole)
    (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0__noop_body M0 h0 M1 h1) Q } := by
  refine ⟨?_, fun f1 E Q => ?run⟩
  case run =>
    iintro ⟨H0, H1, Hk⟩
    sl_exec!
    sl_step
    iapply Hk
    isplitl [H0]; · iexact H0
    iexact H1

/-- What the body leaves is what it read. -/
theorem copyRun_read (c : Dev nD) (M0 : Memref sig .tc .vmem S1000x4 .f32) (h0 : M0.IsWhole) (M1 : Memref sig .tc .vmem S1000x4 .f32) (h1 : M1.IsWhole)
    (f0 : Bf (F := F) c M0) : M1.view.read (Elt F) (copyRun c M0 h0 M1 h1 f0).1 = M0.view.read (Elt F) f0 := by
  unfold copyRun
  dsimp only
  frame_out
  exact shapeCast_self _ _

/-! ## The launch's data -/

variable (V : (c : Dev nD) → (b : Ref sig .tc) → Buf (Elt F) ((c : Thread nD τ).loc b))

/-- The operand's block as it is fetched. -/
abbrev stg (c : Dev nD) : (cfg0.win 0).block.Idx → Elt F (cfg0.win 0).elt :=
  ((cfg0.win 0).blk t0_0).view.read (Elt F) (V c main_v119)

/-- The body's run at the fetched block. -/
abbrev K (c : Dev nD) := copyRun (F := F) c (stage0_0 0) (hstage0_0 0) (stage0_1 0) (hstage0_1 0) (stg V c)

/-- What rides through the launch: the scoped buffers it does not stage. -/
abbrev Φc (c : Dev nD) : sProp 𝕄 := Pipeline.scopedRest (Ix := Unit) (Name := ℕ) (U := UU) (Lvl := ℕ) (Val := Elt F) spec0 c

/-- The launch's data, from contents `V`: the arrays at `V`, then the operand's staging buffer as fetched and the
    result's at what the body leaves. -/
def dat (c : Dev nD) : Dat τ (Elt F) Unit ℕ UU ℕ cfg0 c where
  A w := V c (Pipeline.arrRef spec0 w)
  after w _ := match w with
    | ⟨0, _⟩ => stg V c
    | ⟨1, _⟩ => (K V c).1
  Φ _ := Φc c
  q _ := fullShare
  owed _ := 0

/-- No table is prefetched. -/
abbrev adm : (p : Fin 1) → (pcfgs (F := F) p).Adm := fun p => (cfgs p).toPCfg_adm

/-- The data of every launch: there is the one. -/
def pdats : (p : Fin 1) → (c : Dev nD) → Dat τ (Elt F) Unit ℕ UU ℕ (Pipeline.pin (pcfgs (F := F)) adm p) c
  | ⟨0, _⟩ => fun c => dat V c

/-- No loop needs a variant. -/
abbrev 𝒱₀ : Variants := Variants.none

/-- The operand's staging buffer holds the fetched block when the body runs. -/
theorem before_in (c : Dev nD) (d : (cfg0.win 0).block.Idx → Elt F (cfg0.win 0).elt) : (dat V c).before 0 t0_0 d = stg V c := by
  unfold Dat.before; rw [if_pos (by decide)]; rfl

/-- The body meets the launch's obligation. -/
theorem body_obligation (c : Dev nD) : BodyObligation (dat V c) (defs₀ (F := F)) 𝒱₀ () Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt () t0_0.succ = (dat V c).owesAt () t0_0.castSucc from rfl]
  iintro ⟨HΦ, Howes, ⟨%d0, %f0, %hf0, H0⟩, ⟨%d1, %f1, -, H1⟩⟩
  rw [before_in] at hf0
  subst hf0
  iapply ((K V c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-! ## The launch over the program's buffers -/

/-- No core owes another anything. -/
abbrev L : GSem nD τ sig → Finset Unit := fun _ => ∅
/-- Every counter is on one level. -/
abbrev lv : GSem nD τ sig → Unit → ℕ := fun _ _ => 0

/-- The result's array after the launch, as the write-back leaves it. -/
def copied (c : Dev nD) : Buf (Elt F) ((c : Thread nD τ).loc main_v120) := (dat V c).arrAt 1 cfg0.N

variable (Vp : (c : Dev nD) → (b : Ref sig .tc) → Buf (Elt F) ((c : Thread nD τ).loc b))

set_option backward.isDefEq.respectTransparency.types false in
/-- The launch as a segment: entered with every unscoped buffer at `V`, left with them at any `Vp` that has the result
    at what the launch writes and agrees with `V` elsewhere. -/
def reg (hVp_out : ∀ c, Vp c main_v120 = copied V c)
    (hVp_ne : ∀ c (b : Ref sig .tc), b ≠ main_v120 → Vp c b = V c b) : Pipeline.RegionSeg (pcfgs (F := F)) adm (pdats V) () defs₀ 𝒱₀ L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v119 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The body leaves the operand's block in the result's staging buffer. -/
theorem K_eq (c : Dev nD) : (K V c).1 = stg V c :=
  copyRun_read c (stage0_0 0) (hstage0_0 0) (stage0_1 0) (hstage0_1 0) (stg V c)

/-- The launch copies: the result ends at the operand's contents. -/
theorem copied_eq (c : Dev nD) : copied V c = V c main_v119 := by
  unfold copied
  refine (dat V c).arrAt_eq_of_covers 1 _ (by decide +kernel) fun t hf y => ?_
  blk_simp
  have ht : t = t0_0 := fin_N0 t
  rw [ht]
  dsimp only [dat]
  rw [K_eq]
  rfl

end Cert.Proof.KernelIdeal

end
-- ==== Proof.KernelIdealRun.lean ====
/-
  The run of the kernel's program: the stretches of host operations before the loop, the loop of 6000 trips, the
  stretches after it and the launch that copies the selected boxes into the result. Every execution ends; every buffer
  that is not scoped ends at the contents the operations compute, the result at the copied operand; every counter ends
  at zero.
-/
module

public import proofs.«01_k».proof.Proof.KernelIdealCopy
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 3164

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg LoopSeg Ticket ucRefs sub_ucRefs)

variable {F : FTy → Type} [FloatOps F]

local notation "𝕄" => MT nD τ sig Unit (Elt F) ℕ UU ℕ

/-! ## The operations -/

/-- The condition's two operations: the bound, and the trip counter compared with it. -/
abbrev condOps : List (HloOp τ sig (Elt F)) :=
  [ StableHlo.nullary main_while0c_c_29 (constantI S_ 32 6000#32),
    StableHlo.binary main_v113_3 main_while0c_c_29 main_while0c_v121 (cmpi .slt) ]

/-- The stretches before the loop, of the loop's body, and after the loop. -/
abbrev preI : List (List (HloOp τ sig (Elt F))) := [hostOps0, hostOps0_1, hostOps0_2, hostOps0_3, hostOps0_4, hostOps0_5, hostOps0_6, hostOps0_7, hostOps0_8, hostOps0_9]
/-- The loop's body is one stretch. -/
abbrev bodyI : List (List (HloOp τ sig (Elt F))) := [while0Ops0]
/-- The stretches after the loop. -/
abbrev postI : List (List (HloOp τ sig (Elt F))) := [hostOps0_10, hostOps0_11, hostOps0_12, hostOps0_13]

/-- The stretches before the loop allocate nothing and touch this core's buffers only. -/
theorem hpre : Plain (preI (F := F)) :=
  .cons hostOps0_sub (hf := List.forall_iff_forall_mem.mp (StableHlo.forall_fresh_of_map rfl)) <|
    .cons hostOps0_1_sub (hf := List.forall_iff_forall_mem.mp (StableHlo.forall_fresh_of_map rfl)) <|
    .cons hostOps0_2_sub (hf := List.forall_iff_forall_mem.mp (StableHlo.forall_fresh_of_map rfl)) <|
    .cons hostOps0_3_sub (hf := List.forall_iff_forall_mem.mp (StableHlo.forall_fresh_of_map rfl)) <|
    .cons hostOps0_4_sub (hf := List.forall_iff_forall_mem.mp (StableHlo.forall_fresh_of_map rfl)) <|
    .cons hostOps0_5_sub (hf := List.forall_iff_forall_mem.mp (StableHlo.forall_fresh_of_map rfl)) <|
    .cons hostOps0_6_sub (hf := List.forall_iff_forall_mem.mp (StableHlo.forall_fresh_of_map rfl)) <|
    .cons hostOps0_7_sub (hf := List.forall_iff_forall_mem.mp (StableHlo.forall_fresh_of_map rfl)) <|
    .cons hostOps0_8_sub (hf := List.forall_iff_forall_mem.mp (StableHlo.forall_fresh_of_map rfl)) <|
    .cons hostOps0_9_sub (hf := List.forall_iff_forall_mem.mp (StableHlo.forall_fresh_of_map rfl)) <| .nil
/-- So does the loop's body. -/
theorem hbodyI : Plain (bodyI (F := F)) :=
  .cons while0Ops0_sub (hf := List.forall_iff_forall_mem.mp (StableHlo.forall_fresh_of_map rfl)) .nil
/-- So do the stretches after the loop. -/
theorem hpost : Plain (postI (F := F)) :=
  .cons hostOps0_10_sub (hf := List.forall_iff_forall_mem.mp (StableHlo.forall_fresh_of_map rfl)) <|
    .cons hostOps0_11_sub (hf := List.forall_iff_forall_mem.mp (StableHlo.forall_fresh_of_map rfl)) <|
    .cons hostOps0_12_sub (hf := List.forall_iff_forall_mem.mp (StableHlo.forall_fresh_of_map rfl)) <|
    .cons hostOps0_13_sub (hf := List.forall_iff_forall_mem.mp (StableHlo.forall_fresh_of_map rfl)) <| .nil

variable (m : (ℓ : Loc nD τ sig) → Buf (Elt F) ℓ)

/-! ## The loop's counter and its condition -/

/-- Every buffer's contents before the `k`-th run of the condition. -/
abbrev atK (k : ℕ) (c : Dev nD) : Valuation τ sig (Elt F) := atTrip condOps bodyI (entryContents preI m) k c

/-- The condition leaves the counter. -/
theorem ctr_cond (V : Valuation τ sig (Elt F)) : after condOps V (Proc.devRef .tc main_v113_3) = V (Proc.devRef .tc main_v113_3) :=
  after_unwritten [main_while0c_c_29, main_while0c_v121] rfl (by decide +kernel) V

set_option maxRecDepth 100000 in
/-- One trip leaves the counter one step on. -/
theorem ctr_step (X : Valuation τ sig (Elt F)) :
    after while0Ops0 X (Proc.devRef .tc main_v113_3) = addi (X (Proc.devRef .tc main_v113_3)) (constantI S_ 32 1#32) := by
  after_results
  rfl

/-- The counter starts at zero. -/
theorem ctr_entry (c : Dev nD) : entryContents preI m c (Proc.devRef .tc main_v113_3) = fun _ => (0#32 : BitVec 32) := by
  simp only [entryContents, afterL_cons, afterL_nil]
  after_reads_simp
  rfl

/-- Before the `k`-th run of the condition the counter is `k`. -/
theorem atK_ctr (c : Dev nD) : ∀ k, atK m k c (Proc.devRef .tc main_v113_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_cond, atK_ctr c k, Scf.iv_succ]
    rfl

/-- What rides beside the buffers: the core owes nothing. -/
abbrev Rw (c : Dev nD) : sProp 𝕄 := iprop(∃ W, owes (c : Thread nD τ) (0 : CellTallies nD τ sig Unit) W)

set_option backward.isDefEq.respectTransparency.types false in
/-- The condition holds exactly before the first 6000 trips. -/
theorem cond_spec : LoopCond (pcfgs (F := F)) defs₀ 𝒱₀ loops Rw (main_while0_cond (F := F)) condOps bodyI (entryContents preI m) 6000 := by
  intro k hk c bd
  have hctr := atK_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v113_3 HostLoop.idx0)
        (HloOp.result _ (atK m k c) main_while0c_c_29 HostLoop.idx0) = 1#1) (k < 6000)
    rw [nullary_result_ne _ _ _ _ (by decide), nullary_result, hctr]
    exact Scf.cmpi_slt_iv_ub_iff (lb := 0#32) (ub := 6000#32) (st := 1#32) (by decide) (show k ≤ Scf.trips 0#32 6000#32 1#32 from hk)
  isplitl [Hb]; · iexact Hb
  isplitl [Hh]; · rw [after_cons, after_cons, after_nil]; iexact Hh
  iexact HR

/-! ## The contents at the end -/

/-- Every buffer's contents when the launch is entered, -/
abbrev Vf (c : Dev nD) : Valuation τ sig (Elt F) := finalContents condOps preI bodyI postI 6000 m c
/-- the same at the TensorCore's references, -/
abbrev Vt : (c : Dev nD) → (b : Ref sig .tc) → Buf (Elt F) ((c : Thread nD τ).loc b) := fun c b => Vf m c b
/-- and at the end: the result written. -/
def Ve (c : Dev nD) : Valuation τ sig (Elt F) := Function.update (Vf m c) (Proc.devRef .tc main_v120) (copied (Vt m) c)

/-- The result holds what the launch copied. -/
theorem Ve_out (c : Dev nD) : Ve m c main_v120 = copied (Vt m) c := Function.update_self ..
/-- Every other buffer is as the host operations left it. -/
theorem Ve_of_ne (c : Dev nD) (b : Ref sig .tc) (h : b ≠ main_v120) : Ve m c b = Vf m c b :=
  Function.update_of_ne (StableHlo.devRef_ne_of_ne h) ..

/-- The result ends at the operand of the copy. -/
theorem Ve_result (c : Dev nD) : Ve m c main_v120 = Vf m c main_v119 := (Ve_out m c).trans (copied_eq (Vt m) c)

/-! ## The run -/

/-- The one launch. -/
abbrev tk : Fin 1 → Ticket (Ix := Unit) (Name := ℕ) (U := UU) (Lvl := ℕ) (nD := nD) (τ := τ) (pcfgs (F := F)) adm :=
  fun _ => { p := 0, pdats := pdats (Vt m), EP := embL }

/-- The program's segments: before the loop, the loop, after it, the launch. -/
def segs : List (CSeg (pcfgs (F := F)) adm defs₀ 𝒱₀ L lv loops (tk m)) :=
  segsOf _ _ _ _ _ _ _ _ Rw preI hpre (launchContents m)
    ++ loopSeg _ _ _ _ _ _ _ _ 0 main_while0_cond main_while0_body rfl condOps bodyI hbodyI (by rw [while0_body_chain]; rfl) 6000 (entryContents preI m) Rw (cond_spec m)
      :: (segsOf _ _ _ _ _ _ _ _ Rw postI hpost (fun c => after condOps (atTrip condOps bodyI (entryContents preI m) 6000 c))
        ++ [CSeg.region (pcfgs (F := F)) adm () cellOf_inj defs₀ 𝒱₀ L lv loops (tk m) (0 : Fin 1) (reg (Vt m) (fun c b => Ve m c b) (Ve_out m) (Ve_of_ne m))])

/-- Their programs in order are @main. -/
theorem segs_prog (c : Dev nD) : Pipeline.chain ((segs m).map CSeg.prog) = main (F := F) c := by
  unfold segs
  rw [List.map_append, List.map_cons, List.map_append, segsOf_prog, segsOf_prog, main_chain]
  rfl

omit [FloatOps F] in
/-- The two spellings of a core's state. -/
theorem thread_eq (W : Valuation τ sig (Elt F)) (c : Dev nD) :
    (iprop(held (c : Thread nD τ) (ucRefs τ sig) W ∗ Rw c) : sProp 𝕄)
      = iprop(unscopedBufs c (fun b => W b) ∗ ∃ W', owes (c : Thread nD τ) (0 : CellTallies nD τ sig Unit) W') := by
  rw [← Pipeline.unscopedBufs_held c]

set_option backward.isDefEq.respectTransparency.types false in
/-- They chain, from the launch's contents to the contents at the end. -/
theorem segs_chains :
    CSeg.Chains (fun c => iprop(held (c : Thread nD τ) (ucRefs τ sig) (launchContents m c) ∗ Rw c)) (segs m)
      (fun c => iprop(iprop(held (c : Thread nD τ) (ucRefs τ sig) (Ve m c)) ∗ ∃ W, owes (c : Thread nD τ) (0 : CellTallies nD τ sig Unit) W)) := by
  unfold segs
  refine CSeg.Chains.append (segsOf_chains _ _ _ _ _ _ _ _ Rw preI hpre _) ⟨fun _ => .rfl,
    CSeg.Chains.append (segsOf_chains _ _ _ _ _ _ _ _ Rw postI hpost _) ⟨fun c => ?_, fun c => ?_⟩⟩
  · exact Entails.of_eq (thread_eq _ c)
  · exact Entails.of_eq (thread_eq _ c).symm

/-- No two consume the same launch. -/
theorem segs_disjoint : (segs m).Pairwise fun s s' => Disjoint s.T s'.T := by
  unfold segs
  have h1 := fun s hs => (segsOf_M_T (pcfgs (F := F)) adm defs₀ 𝒱₀ L lv loops (tk m) Rw preI hpre (launchContents m) s hs).2
  have h2 := fun s hs => (segsOf_M_T (pcfgs (F := F)) adm defs₀ 𝒱₀ L lv loops (tk m) Rw postI hpost (fun c => after condOps (atTrip condOps bodyI (entryContents preI m) 6000 c)) s hs).2
  refine List.pairwise_append.mpr ⟨Pipeline.CSeg.pairwise_disjoint_of_T_empty _ h1, List.pairwise_cons.mpr ⟨fun s _ => ?_,
    List.pairwise_append.mpr ⟨Pipeline.CSeg.pairwise_disjoint_of_T_empty _ h2, List.pairwise_singleton .., fun s hs _ _ => ?_⟩⟩, fun s hs _ _ => ?_⟩
  · exact (congrArg (fun x => Disjoint x s.T) (loopSeg_T (pcfgs (F := F)) adm defs₀ 𝒱₀ L lv loops (tk m) (cond_spec m))).mpr (Finset.disjoint_empty_left _)
  · rw [h2 s hs]; exact Finset.disjoint_empty_left _
  · rw [h1 s hs]; exact Finset.disjoint_empty_left _

set_option backward.isDefEq.respectTransparency.types false in
set_option maxRecDepth 100000 in
/-- The run: from any memory with zero counters every weakly fair execution of @main ends, every unscoped buffer at
    `Ve` and every counter at zero. -/
theorem run (ρ : Dev nD → PrngReg) : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = Ve m c (Proc.devRef .tc b)) ∧ r.2.sem = fun _ => 0) :=
  Pipeline.θ_run_regions_loop_kit_sems (pcfgs (F := F)) adm cellOf_inj defs₀ 𝒱₀ L lv loops (tk m) m ρ main (segs m)
    (fun c Q => by
      show wp _ _ _ (Pipeline.chain ((segs m).map CSeg.prog)) Q ⊢ _
      rw [segs_prog m c])
    (segs_disjoint m)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]
      · rw [show (Finset.univ : Finset (Fin 1)) = {0} from rfl, BI.bigSep_singleton]; iexact HP
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ Rw c))
    (Tₙ := fun c => iprop(held (c : Thread nD τ) (ucRefs τ sig) (Ve m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Ve m c b)
    (hfin := fun c s' => by
      unfold held
      iintro ⟨Hh, HSI⟩
      ihave Hr := (pointsTo_read_all (ucRefs τ sig) (fun b => ((c : Dev nD), b)) (fun b => Ve m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (by revert g; decide))⟩)

end Cert.Proof.KernelIdeal

end
-- ==== Proof.KernelIdealFrame.lean ====
/-
  What each stretch of the kernel's host operations writes, and with it that the three arguments keep their contents
  through the whole program.
-/
module

public import proofs.«01_k».proof.Proof.KernelIdealRun

@[expose] public section

set_option maxRecDepth 100000

noncomputable section

namespace Cert.Proof.KernelIdeal

open Cert.KernelIdeal Cert.KernelIdeal.Gen

open Idealize.ShloMosaic
open Idealize.ShloMosaic.TcCoe Idealize.ShloMosaic.Tactic
open Idealize.ShloMosaic.StableHlo

variable {F : FTy → Type} [FloatOps F]

/-! ## The buffers that each stretch writes -/

/-- The buffers that the operations of `hostOps0` write, in order. -/
abbrev W_hostOps0 : List (Ref sig .tc) :=
  [main_values, main_indices]

/-- `hostOps0` leaves every other buffer. -/
theorem keep_hostOps0 (V : Valuation τ sig (Elt F)) {r : Ref sig .tc} (h : r ∉ W_hostOps0) :
    after hostOps0 V (Proc.devRef .tc r) = V (Proc.devRef .tc r) :=
  after_unwritten W_hostOps0 rfl h V

/-- The buffers that the operations of `hostOps0_1` write, in order. -/
abbrev W_hostOps0_1 : List (Ref sig .tc) :=
  [main_call0_c, main_call0_v0, main_call0_v1, main_call0_c_0, main_call0_v2, main_call0_v3, main_call0_v4,
    main_call0_v5, main_call0_c_1, main_call0_c_2, main_call0_v6, main_call0_v7, main_call0_v8, main_call0_v9,
    main_call0_v10, main_call0_v11, main_call0_c_3, main_call0_v12, main_call0_v13, main_call0_v14, main_call0_cst,
    main_call0_v15, main_v0]

/-- `hostOps0_1` leaves every other buffer. -/
theorem keep_hostOps0_1 (V : Valuation τ sig (Elt F)) {r : Ref sig .tc} (h : r ∉ W_hostOps0_1) :
    after hostOps0_1 V (Proc.devRef .tc r) = V (Proc.devRef .tc r) :=
  after_unwritten W_hostOps0_1 rfl h V

/-- The buffers that the operations of `hostOps0_2` write, in order. -/
abbrev W_hostOps0_2 : List (Ref sig .tc) :=
  [main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_v14, main_call1_cst,
    main_call1_v15, main_v1]

/-- `hostOps0_2` leaves every other buffer. -/
theorem keep_hostOps0_2 (V : Valuation τ sig (Elt F)) {r : Ref sig .tc} (h : r ∉ W_hostOps0_2) :
    after hostOps0_2 V (Proc.devRef .tc r) = V (Proc.devRef .tc r) :=
  after_unwritten W_hostOps0_2 rfl h V

/-- The buffers that the operations of `hostOps0_3` write, in order. -/
abbrev W_hostOps0_3 : List (Ref sig .tc) :=
  [main_v2, main_v3, main_v4, main_v5, main_v6, main_v7, main_v8, main_v9, main_v10, main_v11, main_v12, main_v13,
    main_cst, main_v14, main_v15, main_v16, main_v17, main_v18, main_cst_0, main_v19, main_v20, main_v21, main_v22,
    main_v23, main_v24, main_v25, main_v26, main_v27, main_cst_1, main_v28, main_v29, main_v30, main_v31, main_cst_2,
    main_v32, main_v33, main_v34, main_v35, main_v36, main_v37, main_v38, main_v39, main_v40, main_v41, main_cst_3,
    main_v42, main_v43, main_v44, main_cst_4, main_v45, main_v46, main_v47, main_cst_5, main_v48, main_v49, main_v50,
    main_cst_6, main_v51, main_v52, main_v53, main_v54, main_v55, main_v56, main_v57, main_v58, main_v59, main_v60,
    main_cst_7, main_v61, main_v62, main_cst_8, main_v63, main_v64, main_v65, main_v66, main_cst_9, main_v67,
    main_v68, main_cst_10, main_v69, main_v70, main_v71, main_v72, main_cst_11, main_v73, main_v74, main_cst_12,
    main_v75, main_v76, main_v77, main_v78, main_cst_13, main_v79, main_v80, main_cst_14, main_v81, main_v82,
    main_v83, main_v84, main_v85, main_v86, main_v87, main_v88, main_cst_15, main_v89, main_v90, main_v91,
    main_cst_16, main_v92, main_v93, main_v94, main_cst_17]

/-- `hostOps0_3` leaves every other buffer. -/
theorem keep_hostOps0_3 (V : Valuation τ sig (Elt F)) {r : Ref sig .tc} (h : r ∉ W_hostOps0_3) :
    after hostOps0_3 V (Proc.devRef .tc r) = V (Proc.devRef .tc r) :=
  after_unwritten W_hostOps0_3 rfl h V

/-- The buffers that the operations of `hostOps0_4` write, in order. -/
abbrev W_hostOps0_4 : List (Ref sig .tc) :=
  [main_call2_v0, main_call2_v1, main_v95]

/-- `hostOps0_4` leaves every other buffer. -/
theorem keep_hostOps0_4 (V : Valuation τ sig (Elt F)) {r : Ref sig .tc} (h : r ∉ W_hostOps0_4) :
    after hostOps0_4 V (Proc.devRef .tc r) = V (Proc.devRef .tc r) :=
  after_unwritten W_hostOps0_4 rfl h V

/-- The buffers that the operations of `hostOps0_5` write, in order. -/
abbrev W_hostOps0_5 : List (Ref sig .tc) :=
  [main_v96]

/-- `hostOps0_5` leaves every other buffer. -/
theorem keep_hostOps0_5 (V : Valuation τ sig (Elt F)) {r : Ref sig .tc} (h : r ∉ W_hostOps0_5) :
    after hostOps0_5 V (Proc.devRef .tc r) = V (Proc.devRef .tc r) :=
  after_unwritten W_hostOps0_5 rfl h V

/-- The buffers that the operations of `hostOps0_6` write, in order. -/
abbrev W_hostOps0_6 : List (Ref sig .tc) :=
  [main_call3_v0, main_call3_v1_0, main_v97]

/-- `hostOps0_6` leaves every other buffer. -/
theorem keep_hostOps0_6 (V : Valuation τ sig (Elt F)) {r : Ref sig .tc} (h : r ∉ W_hostOps0_6) :
    after hostOps0_6 V (Proc.devRef .tc r) = V (Proc.devRef .tc r) :=
  after_unwritten W_hostOps0_6 rfl h V

/-- The buffers that the operations of `hostOps0_7` write, in order. -/
abbrev W_hostOps0_7 : List (Ref sig .tc) :=
  [main_call4_c, main_call4_v0, main_call4_v1, main_call4_c_0, main_call4_v2, main_call4_v3, main_call4_v4,
    main_call4_v5, main_call4_c_1, main_call4_c_2, main_call4_v6, main_call4_v7, main_call4_v8, main_call4_v9,
    main_call4_v10, main_call4_v11, main_call4_c_3, main_call4_v12, main_call4_v13, main_call4_v14, main_call4_cst,
    main_call4_v15, main_v98]

/-- `hostOps0_7` leaves every other buffer. -/
theorem keep_hostOps0_7 (V : Valuation τ sig (Elt F)) {r : Ref sig .tc} (h : r ∉ W_hostOps0_7) :
    after hostOps0_7 V (Proc.devRef .tc r) = V (Proc.devRef .tc r) :=
  after_unwritten W_hostOps0_7 rfl h V

/-- The buffers that the operations of `hostOps0_8` write, in order. -/
abbrev W_hostOps0_8 : List (Ref sig .tc) :=
  [main_call5_c, main_call5_v0, main_call5_v1, main_call5_c_0, main_call5_v2, main_call5_v3, main_call5_v4,
    main_call5_v5, main_call5_c_1, main_call5_c_2, main_call5_v6, main_call5_v7, main_call5_v8, main_call5_v9,
    main_call5_v10, main_call5_v11, main_call5_c_3, main_call5_v12, main_call5_v13, main_call5_cst, main_call5_v14,
    main_v99]

/-- `hostOps0_8` leaves every other buffer. -/
theorem keep_hostOps0_8 (V : Valuation τ sig (Elt F)) {r : Ref sig .tc} (h : r ∉ W_hostOps0_8) :
    after hostOps0_8 V (Proc.devRef .tc r) = V (Proc.devRef .tc r) :=
  after_unwritten W_hostOps0_8 rfl h V

/-- The buffers that the operations of `hostOps0_9` write, in order. -/
abbrev W_hostOps0_9 : List (Ref sig .tc) :=
  [main_v100, main_v101, main_v102, main_v103, main_v104, main_v105, main_v106, main_v107, main_v108, main_v109,
    main_v110, main_v111, main_c, main_v112, main_c_18, main_c_19, main_v113_0, main_v113_1, main_v113_2, main_v113_3,
    main_v113_4, main_v113_5]

/-- `hostOps0_9` leaves every other buffer. -/
theorem keep_hostOps0_9 (V : Valuation τ sig (Elt F)) {r : Ref sig .tc} (h : r ∉ W_hostOps0_9) :
    after hostOps0_9 V (Proc.devRef .tc r) = V (Proc.devRef .tc r) :=
  after_unwritten W_hostOps0_9 rfl h V

/-- The buffers that the operations of `hostOps0_10` write, in order. -/
abbrev W_hostOps0_10 : List (Ref sig .tc) :=
  [main_v114, main_cst_20, main_v115, main_v116, main_v117, main_cst_21]

/-- `hostOps0_10` leaves every other buffer. -/
theorem keep_hostOps0_10 (V : Valuation τ sig (Elt F)) {r : Ref sig .tc} (h : r ∉ W_hostOps0_10) :
    after hostOps0_10 V (Proc.devRef .tc r) = V (Proc.devRef .tc r) :=
  after_unwritten W_hostOps0_10 rfl h V

/-- The buffers that the operations of `hostOps0_11` write, in order. -/
abbrev W_hostOps0_11 : List (Ref sig .tc) :=
  [main_call6_v0, main_call6_v1, main_v118]

/-- `hostOps0_11` leaves every other buffer. -/
theorem keep_hostOps0_11 (V : Valuation τ sig (Elt F)) {r : Ref sig .tc} (h : r ∉ W_hostOps0_11) :
    after hostOps0_11 V (Proc.devRef .tc r) = V (Proc.devRef .tc r) :=
  after_unwritten W_hostOps0_11 rfl h V

/-- The buffers that the operations of `hostOps0_12` write, in order. -/
abbrev W_hostOps0_12 : List (Ref sig .tc) :=
  [main_values_22, main_indices_23]

/-- `hostOps0_12` leaves every other buffer. -/
theorem keep_hostOps0_12 (V : Valuation τ sig (Elt F)) {r : Ref sig .tc} (h : r ∉ W_hostOps0_12) :
    after hostOps0_12 V (Proc.devRef .tc r) = V (Proc.devRef .tc r) :=
  after_unwritten W_hostOps0_12 rfl h V

/-- The buffers that the operations of `hostOps0_13` write, in order. -/
abbrev W_hostOps0_13 : List (Ref sig .tc) :=
  [main_call7_c, main_call7_v0, main_call7_v1, main_call7_c_0, main_call7_v2, main_call7_v3, main_call7_v4,
    main_call7_v5, main_call7_c_1, main_call7_c_2, main_call7_v6, main_call7_v7, main_call7_v8, main_call7_v9,
    main_call7_v10, main_call7_v11, main_call7_c_3, main_call7_v12, main_call7_v13, main_call7_v14, main_call7_cst,
    main_call7_v15, main_v119]

/-- `hostOps0_13` leaves every other buffer. -/
theorem keep_hostOps0_13 (V : Valuation τ sig (Elt F)) {r : Ref sig .tc} (h : r ∉ W_hostOps0_13) :
    after hostOps0_13 V (Proc.devRef .tc r) = V (Proc.devRef .tc r) :=
  after_unwritten W_hostOps0_13 rfl h V

/-- The buffers that the operations of `while0Ops0` write, in order. -/
abbrev W_while0Ops0 : List (Ref sig .tc) :=
  [main_while0b_c_29, main_while0b_v121, main_while0b_v122, main_while0b_c_30, main_while0b_v123, main_while0b_c_31,
    main_while0b_v124, main_while0b_v125, main_while0b_c_32, main_while0b_c_33, main_while0b_v126, main_while0b_c_34,
    main_while0b_c_35, main_while0b_v127, main_while0b_c_36, main_while0b_v128, main_while0b_v129, main_while0b_v130,
    main_while0b_v131, main_while0b_v132, main_while0b_v133, main_while0b_v134, main_while0b_v135, main_while0b_c_37,
    main_while0b_v136, main_while0b_c_38, main_while0b_v137, main_while0b_v138, main_while0b_c_39, main_while0b_c_40,
    main_while0b_v139, main_while0b_c_41, main_while0b_c_42, main_while0b_v140, main_while0b_c_43, main_while0b_v141,
    main_while0b_v142, main_while0b_v143, main_while0b_v144, main_while0b_v145, main_while0b_v146, main_while0b_v147,
    main_while0b_v148, main_while0b_c_44, main_while0b_v149, main_while0b_c_45, main_while0b_v150, main_while0b_v151,
    main_while0b_c_46, main_while0b_c_47, main_while0b_v152, main_while0b_c_48, main_while0b_c_49, main_while0b_v153,
    main_while0b_c_50, main_while0b_v154, main_while0b_v155, main_while0b_v156, main_while0b_v157, main_while0b_v158,
    main_while0b_v159, main_while0b_v160, main_while0b_v161, main_while0b_c_51, main_while0b_v162, main_while0b_c_52,
    main_while0b_v163, main_while0b_v164, main_while0b_c_53, main_while0b_c_54, main_while0b_v165, main_while0b_c_55,
    main_while0b_c_56, main_while0b_v166, main_while0b_c_57, main_while0b_v167, main_while0b_v168, main_while0b_v169,
    main_while0b_v170, main_while0b_v171, main_while0b_v172, main_while0b_v173, main_while0b_v174,
    main_while0b_cst_58, main_while0b_v175, main_while0b_v176, main_while0b_v177, main_while0b_cst_59,
    main_while0b_v178, main_while0b_v179, main_while0b_v180, main_while0b_c_60, main_while0b_v181, main_while0b_v182,
    main_while0b_c_61, main_while0b_v183, main_while0b_v184, main_while0b_v185, main_while0b_v186, main_while0b_v187,
    main_while0b_v188, main_while0b_v189, main_while0b_cst_62, main_while0b_v190, main_while0b_v191,
    main_while0b_v192, main_while0b_cst_63, main_while0b_v193, main_while0b_v194, main_while0b_v195,
    main_while0b_v196, main_while0b_v197, main_while0b_v198, main_while0b_c_64, main_while0b_v199, main_while0b_v200,
    main_while0b_c_65, main_while0b_v201, main_while0b_v202, main_while0b_v203, main_while0b_v204, main_while0b_v205,
    main_while0b_v206, main_while0b_v207, main_while0b_v208, main_while0b_c_66, main_while0b_v209, main_v113_3,
    main_v113_4, main_v113_5]

/-- `while0Ops0` leaves every other buffer. -/
theorem keep_while0Ops0 (V : Valuation τ sig (Elt F)) {r : Ref sig .tc} (h : r ∉ W_while0Ops0) :
    after while0Ops0 V (Proc.devRef .tc r) = V (Proc.devRef .tc r) :=
  after_unwritten W_while0Ops0 rfl h V

/-! ## The arguments -/

/-- A buffer that is no stretch's to write before the loop enters it unchanged. -/
theorem entry_keep (m : (ℓ : Loc nD τ sig) → Buf (Elt F) ℓ) (c : Dev nD) {r : Ref sig .tc}
    (h : r ∉ W_hostOps0 ++ W_hostOps0_1 ++ W_hostOps0_2 ++ W_hostOps0_3 ++ W_hostOps0_4 ++ W_hostOps0_5 ++ W_hostOps0_6
      ++ W_hostOps0_7 ++ W_hostOps0_8 ++ W_hostOps0_9) :
    entryContents preI m c (Proc.devRef .tc r) = launchContents m c (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [entryContents, afterL_cons, afterL_nil]
  rw [keep_hostOps0_9 _ h9, keep_hostOps0_8 _ h8, keep_hostOps0_7 _ h7, keep_hostOps0_6 _ h6, keep_hostOps0_5 _ h5,
    keep_hostOps0_4 _ h4, keep_hostOps0_3 _ h3, keep_hostOps0_2 _ h2, keep_hostOps0_1 _ h1, keep_hostOps0 _ h0]

/-- A buffer that no trip writes keeps its contents through the loop. -/
theorem atK_keep (m : (ℓ : Loc nD τ sig) → Buf (Elt F) ℓ) (c : Dev nD) {r : Ref sig .tc}
    (h : r ∉ [main_while0c_c_29, main_while0c_v121] ++ W_while0Ops0) :
    ∀ k, atK m k c (Proc.devRef .tc r) = entryContents preI m c (Proc.devRef .tc r)
  | 0 => rfl
  | k + 1 => by
    have h' := h
    simp only [List.mem_append, not_or] at h'
    rw [show atK m (k + 1) c = afterL bodyI (after condOps (atK m k c)) from rfl]
    simp only [afterL_cons, afterL_nil]
    rw [keep_while0Ops0 _ h'.2, after_unwritten [main_while0c_c_29, main_while0c_v121] rfl h'.1, atK_keep m c h k]
    rfl

/-- A buffer that no operation after the loop writes. -/
theorem post_keep (V : Valuation τ sig (Elt F)) {r : Ref sig .tc}
    (h : r ∉ W_hostOps0_10 ++ W_hostOps0_11 ++ W_hostOps0_12 ++ W_hostOps0_13) :
    afterL postI V (Proc.devRef .tc r) = V (Proc.devRef .tc r) := by
  simp only [List.mem_append, not_or] at h
  obtain ⟨⟨⟨h0, h1⟩, h2⟩, h3⟩ := h
  simp only [afterL_cons, afterL_nil]
  rw [keep_hostOps0_13 _ h3, keep_hostOps0_12 _ h2, keep_hostOps0_11 _ h1, keep_hostOps0_10 _ h0]

/-- A buffer that no operation of the program writes ends as it began, if it is not the result. -/
theorem Ve_keep (m : (ℓ : Loc nD τ sig) → Buf (Elt F) ℓ) (c : Dev nD) {r : Ref sig .tc}
    (hpre : r ∉ W_hostOps0 ++ W_hostOps0_1 ++ W_hostOps0_2 ++ W_hostOps0_3 ++ W_hostOps0_4 ++ W_hostOps0_5 ++ W_hostOps0_6
      ++ W_hostOps0_7 ++ W_hostOps0_8 ++ W_hostOps0_9)
    (hloop : r ∉ [main_while0c_c_29, main_while0c_v121] ++ W_while0Ops0)
    (hpost : r ∉ W_hostOps0_10 ++ W_hostOps0_11 ++ W_hostOps0_12 ++ W_hostOps0_13)
    (hr : r ≠ main_v120) :
    Ve m c (Proc.devRef .tc r) = launchContents m c (Proc.devRef .tc r) := by
  have hloop' := hloop
  simp only [List.mem_append, not_or] at hloop'
  rw [Ve_of_ne m c r hr, Vf, finalContents, post_keep _ hpost,
    after_unwritten [main_while0c_c_29, main_while0c_v121] rfl hloop'.1]
  exact (atK_keep m c hloop 6000).trans (entry_keep m c hpre)

/-- Argument 0 ends as it began. -/
theorem Ve_arg0 (m : (ℓ : Loc nD τ sig) → Buf (Elt F) ℓ) (c : Dev nD) :
    Ve m c (Proc.devRef .tc main_arg0) = launchContents m c (Proc.devRef .tc main_arg0) :=
  Ve_keep m c (by decide +kernel) (by decide +kernel) (by decide +kernel) (by decide +kernel)
/-- Argument 1 ends as it began. -/
theorem Ve_arg1 (m : (ℓ : Loc nD τ sig) → Buf (Elt F) ℓ) (c : Dev nD) :
    Ve m c (Proc.devRef .tc main_arg1) = launchContents m c (Proc.devRef .tc main_arg1) :=
  Ve_keep m c (by decide +kernel) (by decide +kernel) (by decide +kernel) (by decide +kernel)
/-- Argument 2 ends as it began. -/
theorem Ve_arg2 (m : (ℓ : Loc nD τ sig) → Buf (Elt F) ℓ) (c : Dev nD) :
    Ve m c (Proc.devRef .tc main_arg2) = launchContents m c (Proc.devRef .tc main_arg2) :=
  Ve_keep m c (by decide +kernel) (by decide +kernel) (by decide +kernel) (by decide +kernel)

end Cert.Proof.KernelIdeal
-- ==== Proof.ReferenceIdealFrame.lean ====
/-
  The reference's arguments keep their contents through its whole program.
-/
module

public import proofs.«01_k».proof.Proof.Gen.ReferenceIdeal.Run

@[expose] public section

set_option maxRecDepth 100000

noncomputable section

namespace Cert.Proof.ReferenceIdeal

open Cert.ReferenceIdeal Cert.ReferenceIdeal.Gen Cert.ReferenceIdeal.Value

open Idealize.ShloMosaic
open Idealize.ShloMosaic.TcCoe Idealize.ShloMosaic.Tactic
open Idealize.ShloMosaic.StableHlo

variable {F : FTy → Type} [FloatOps F]

/-! ## The buffers that the stretches after the loop write -/

/-- The buffers that the operations of `hostOps0_10` write, in order. -/
abbrev W_hostOps0_10 : List (Ref sig .tc) :=
  [main_v168, main_cst_24, main_v169, main_v170, main_v171, main_cst_25]

/-- `hostOps0_10` leaves every other buffer. -/
theorem keep_hostOps0_10 (V : Valuation τ sig (Elt F)) {r : Ref sig .tc} (h : r ∉ W_hostOps0_10) :
    after hostOps0_10 V (Proc.devRef .tc r) = V (Proc.devRef .tc r) :=
  after_unwritten W_hostOps0_10 rfl h V

/-- The buffers that the operations of `hostOps0_11` write, in order. -/
abbrev W_hostOps0_11 : List (Ref sig .tc) :=
  [main_call7_v0, main_call7_v1, main_v172]

/-- `hostOps0_11` leaves every other buffer. -/
theorem keep_hostOps0_11 (V : Valuation τ sig (Elt F)) {r : Ref sig .tc} (h : r ∉ W_hostOps0_11) :
    after hostOps0_11 V (Proc.devRef .tc r) = V (Proc.devRef .tc r) :=
  after_unwritten W_hostOps0_11 rfl h V

/-- The buffers that the operations of `hostOps0_12` write, in order. -/
abbrev W_hostOps0_12 : List (Ref sig .tc) :=
  [main_values_26, main_indices_27]

/-- `hostOps0_12` leaves every other buffer. -/
theorem keep_hostOps0_12 (V : Valuation τ sig (Elt F)) {r : Ref sig .tc} (h : r ∉ W_hostOps0_12) :
    after hostOps0_12 V (Proc.devRef .tc r) = V (Proc.devRef .tc r) :=
  after_unwritten W_hostOps0_12 rfl h V

/-- The buffers that the operations of `hostOps0_13` write, in order. -/
abbrev W_hostOps0_13 : List (Ref sig .tc) :=
  [main_call8_c, main_call8_v0, main_call8_v1, main_call8_c_0, main_call8_v2, main_call8_v3, main_call8_v4,
    main_call8_v5, main_call8_c_1, main_call8_c_2, main_call8_v6, main_call8_v7, main_call8_v8, main_call8_v9,
    main_call8_v10, main_call8_v11, main_call8_c_3, main_call8_v12, main_call8_v13, main_call8_v14, main_call8_cst,
    main_call8_v15, main_v173]

/-- `hostOps0_13` leaves every other buffer. -/
theorem keep_hostOps0_13 (V : Valuation τ sig (Elt F)) {r : Ref sig .tc} (h : r ∉ W_hostOps0_13) :
    after hostOps0_13 V (Proc.devRef .tc r) = V (Proc.devRef .tc r) :=
  after_unwritten W_hostOps0_13 rfl h V

/-! ## The arguments -/

/-- A buffer that is no stretch's to write before the loop enters it unchanged. -/
theorem entry_keep (m : (ℓ : Loc nD τ sig) → Buf (Elt F) ℓ) (c : Dev nD) {r : Ref sig .tc}
    (h : r ∉ hostOps0_W ++ hostOps0_1_W ++ hostOps0_2_W ++ hostOps0_3_W ++ hostOps0_4_W ++ hostOps0_5_W ++ hostOps0_6_W
      ++ hostOps0_7_W ++ hostOps0_8_W ++ hostOps0_9_W) :
    entryContents preI m c (Proc.devRef .tc r) = launchContents m c (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [entryContents, afterL_cons, afterL_nil]
  rw [after_of_writes_sub _ _ hostOps0_9_writes h9, after_of_writes_sub _ _ hostOps0_8_writes h8,
    after_of_writes_sub _ _ hostOps0_7_writes h7, after_of_writes_sub _ _ hostOps0_6_writes h6,
    after_of_writes_sub _ _ hostOps0_5_writes h5, after_of_writes_sub _ _ hostOps0_4_writes h4,
    after_of_writes_sub _ _ hostOps0_3_writes h3, after_of_writes_sub _ _ hostOps0_2_writes h2,
    after_of_writes_sub _ _ hostOps0_1_writes h1, after_of_writes_sub _ _ hostOps0_writes h0]

/-- A buffer that no trip writes keeps its contents through the loop. -/
theorem atK_keep (m : (ℓ : Loc nD τ sig) → Buf (Elt F) ℓ) (c : Dev nD) {r : Ref sig .tc}
    (h : r ∉ condOps_W ++ while0Ops0_W ++ while0Ops0_1_W ++ while0Ops0_2_W) :
    ∀ k, atK m k c (Proc.devRef .tc r) = entryContents preI m c (Proc.devRef .tc r)
  | 0 => rfl
  | k + 1 => by
    have h' := h
    simp only [List.mem_append, not_or] at h'
    obtain ⟨⟨⟨hc, h0⟩, h1⟩, h2⟩ := h'
    rw [show atK m (k + 1) c = afterL bodyI (after condOps (atK m k c)) from rfl]
    simp only [afterL_cons, afterL_nil]
    rw [after_of_writes_sub _ _ while0Ops0_2_writes h2, after_of_writes_sub _ _ while0Ops0_1_writes h1,
      after_of_writes_sub _ _ while0Ops0_writes h0, after_of_writes_sub _ _ condOps_writes hc, atK_keep m c h k]
    rfl

/-- A buffer that no operation after the loop writes. -/
theorem post_keep (V : Valuation τ sig (Elt F)) {r : Ref sig .tc}
    (h : r ∉ W_hostOps0_10 ++ W_hostOps0_11 ++ W_hostOps0_12 ++ W_hostOps0_13) :
    afterL postI V (Proc.devRef .tc r) = V (Proc.devRef .tc r) := by
  simp only [List.mem_append, not_or] at h
  obtain ⟨⟨⟨h0, h1⟩, h2⟩, h3⟩ := h
  simp only [afterL_cons, afterL_nil]
  rw [keep_hostOps0_13 _ h3, keep_hostOps0_12 _ h2, keep_hostOps0_11 _ h1, keep_hostOps0_10 _ h0]

/-- Every buffer's contents at the end. -/
abbrev Vf (m : (ℓ : Loc nD τ sig) → Buf (Elt F) ℓ) (c : Dev nD) : Valuation τ sig (Elt F) :=
  finalContents condOps preI bodyI postI 6000 m c

/-- A buffer that no operation of the program writes ends as it began. -/
theorem Vf_keep (m : (ℓ : Loc nD τ sig) → Buf (Elt F) ℓ) (c : Dev nD) {r : Ref sig .tc}
    (hpre : r ∉ hostOps0_W ++ hostOps0_1_W ++ hostOps0_2_W ++ hostOps0_3_W ++ hostOps0_4_W ++ hostOps0_5_W ++ hostOps0_6_W
      ++ hostOps0_7_W ++ hostOps0_8_W ++ hostOps0_9_W)
    (hloop : r ∉ condOps_W ++ while0Ops0_W ++ while0Ops0_1_W ++ while0Ops0_2_W)
    (hpost : r ∉ W_hostOps0_10 ++ W_hostOps0_11 ++ W_hostOps0_12 ++ W_hostOps0_13) :
    Vf m c (Proc.devRef .tc r) = launchContents m c (Proc.devRef .tc r) := by
  have hloop' := hloop
  simp only [List.mem_append, not_or] at hloop'
  rw [Vf, finalContents, post_keep _ hpost, after_of_writes_sub _ _ condOps_writes hloop'.1.1.1]
  exact (atK_keep m c hloop 6000).trans (entry_keep m c hpre)

/-- Argument 0 ends as it began. -/
theorem Vf_arg0 (m : (ℓ : Loc nD τ sig) → Buf (Elt F) ℓ) (c : Dev nD) :
    Vf m c (Proc.devRef .tc main_arg0) = launchContents m c (Proc.devRef .tc main_arg0) :=
  Vf_keep m c (by decide +kernel) (by decide +kernel) (by decide +kernel)
/-- Argument 1 ends as it began. -/
theorem Vf_arg1 (m : (ℓ : Loc nD τ sig) → Buf (Elt F) ℓ) (c : Dev nD) :
    Vf m c (Proc.devRef .tc main_arg1) = launchContents m c (Proc.devRef .tc main_arg1) :=
  Vf_keep m c (by decide +kernel) (by decide +kernel) (by decide +kernel)
/-- Argument 2 ends as it began. -/
theorem Vf_arg2 (m : (ℓ : Loc nD τ sig) → Buf (Elt F) ℓ) (c : Dev nD) :
    Vf m c (Proc.devRef .tc main_arg2) = launchContents m c (Proc.devRef .tc main_arg2) :=
  Vf_keep m c (by decide +kernel) (by decide +kernel) (by decide +kernel)

end Cert.Proof.ReferenceIdeal
-- ==== Proof.RelPre.lean ====
/-
  The kernel and the reference up to their loops, side by side: the 6000 best scores, the decoded and clipped boxes,
  their validity and their order. Both programs apply the same operations here, so from equal arguments the sorted boxes
  and the sorted scores are equal. Each lemma says it of one stretch, from what the stretch reads.
-/
module

public import proofs.«01_k».proof.Proof.KernelIdealFrame
public import proofs.«01_k».proof.Proof.ReferenceIdealFrame

@[expose] public section

set_option maxRecDepth 100000

noncomputable section

namespace Cert.Proof.Rel

open Idealize.ShloMosaic
open Idealize.ShloMosaic.TcCoe Idealize.ShloMosaic.Tactic
open Idealize.ShloMosaic.StableHlo

variable {F : FTy → Type} [FloatOps F]

/-- Every buffer's contents in the kernel's program. -/
abbrev VK (F : FTy → Type) := Valuation Cert.KernelIdeal.τ Cert.KernelIdeal.sig (Elt F)
/-- Every buffer's contents in the reference's program. -/
abbrev VR (F : FTy → Type) := Valuation Cert.ReferenceIdeal.τ Cert.ReferenceIdeal.sig (Elt F)

variable (V : VK F) (V' : VR F)

/-- A straight line is its first `n` operations and then the others. -/
theorem after_cut {τ : Topo} {sig : RefSig} {Val : EltTy → Type} (n : ℕ) (ops : List (HloOp τ sig Val)) (U : Valuation τ sig Val) :
    after ops U = after (ops.drop n) (after (ops.take n) U) := by
  conv_lhs => rw [← List.take_append_drop n ops]
  generalize ops.take n = l₁
  generalize ops.drop n = l₂
  induction l₁ generalizing U with
  | nil => rfl
  | cons op l ih => exact ih _

/-! ## The best scores and the two selections -/

/-- The 6000 best scores. -/
theorem pre0_values (h : V KernelIdeal.main_arg2 = V' ReferenceIdeal.main_arg2) :
    after KernelIdeal.Gen.hostOps0 V KernelIdeal.main_values = after ReferenceIdeal.Gen.hostOps0 V' ReferenceIdeal.main_values := by
  simp only [KernelIdeal.Gen.hostOps0, ReferenceIdeal.Gen.hostOps0]
  after_results_simp
  rw [h]

/-- Where they stand. -/
theorem pre0_indices (h : V KernelIdeal.main_arg2 = V' ReferenceIdeal.main_arg2) :
    after KernelIdeal.Gen.hostOps0 V KernelIdeal.main_indices = after ReferenceIdeal.Gen.hostOps0 V' ReferenceIdeal.main_indices := by
  simp only [KernelIdeal.Gen.hostOps0, ReferenceIdeal.Gen.hostOps0]
  after_results_simp
  rw [h]

set_option maxHeartbeats 2000000 in
/-- The deltas of the 6000 boxes. -/
theorem pre1 (h : V KernelIdeal.main_arg1 = V' ReferenceIdeal.main_arg1) (h' : V KernelIdeal.main_indices = V' ReferenceIdeal.main_indices) :
    after KernelIdeal.Gen.hostOps0_1 V KernelIdeal.main_v0 = after ReferenceIdeal.Gen.hostOps0_1 V' ReferenceIdeal.main_v0 := by
  simp only [KernelIdeal.Gen.hostOps0_1, ReferenceIdeal.Gen.hostOps0_1]
  after_results_simp
  rw [h, h']
  rfl

set_option maxHeartbeats 2000000 in
/-- The anchors of the 6000 boxes. -/
theorem pre2 (h : V KernelIdeal.main_arg0 = V' ReferenceIdeal.main_arg0) (h' : V KernelIdeal.main_indices = V' ReferenceIdeal.main_indices) :
    after KernelIdeal.Gen.hostOps0_2 V KernelIdeal.main_v1 = after ReferenceIdeal.Gen.hostOps0_2 V' ReferenceIdeal.main_v1 := by
  simp only [KernelIdeal.Gen.hostOps0_2, ReferenceIdeal.Gen.hostOps0_2]
  after_results_simp
  rw [h, h']
  rfl

/-! ## Decoding, clipping and validity, in five windows: the four decoded columns, their stack, the four clipped columns,
their stack, the validity -/

/-- The columns' operations. -/
abbrev decK : List (HloOp KernelIdeal.τ KernelIdeal.sig (Elt F)) := KernelIdeal.Gen.hostOps0_3.take 64
/-- The same of the reference. -/
abbrev decR : List (HloOp ReferenceIdeal.τ ReferenceIdeal.sig (Elt F)) := ReferenceIdeal.Gen.hostOps0_3.take 64
/-- The first stack. -/
abbrev catK : List (HloOp KernelIdeal.τ KernelIdeal.sig (Elt F)) := (KernelIdeal.Gen.hostOps0_3.drop 64).take 1
/-- The same of the reference. -/
abbrev catR : List (HloOp ReferenceIdeal.τ ReferenceIdeal.sig (Elt F)) := (ReferenceIdeal.Gen.hostOps0_3.drop 64).take 1
/-- The clipped columns' operations. -/
abbrev clipK : List (HloOp KernelIdeal.τ KernelIdeal.sig (Elt F)) := ((KernelIdeal.Gen.hostOps0_3.drop 64).drop 1).take 36
/-- The same of the reference. -/
abbrev clipR : List (HloOp ReferenceIdeal.τ ReferenceIdeal.sig (Elt F)) := ((ReferenceIdeal.Gen.hostOps0_3.drop 64).drop 1).take 36
/-- The second stack. -/
abbrev stackK : List (HloOp KernelIdeal.τ KernelIdeal.sig (Elt F)) := (((KernelIdeal.Gen.hostOps0_3.drop 64).drop 1).drop 36).take 1
/-- The same of the reference. -/
abbrev stackR : List (HloOp ReferenceIdeal.τ ReferenceIdeal.sig (Elt F)) := (((ReferenceIdeal.Gen.hostOps0_3.drop 64).drop 1).drop 36).take 1
/-- The validity's operations. -/
abbrev validK : List (HloOp KernelIdeal.τ KernelIdeal.sig (Elt F)) := (((KernelIdeal.Gen.hostOps0_3.drop 64).drop 1).drop 36).drop 1
/-- The same of the reference. -/
abbrev validR : List (HloOp ReferenceIdeal.τ ReferenceIdeal.sig (Elt F)) := (((ReferenceIdeal.Gen.hostOps0_3.drop 64).drop 1).drop 36).drop 1

/-- The kernel's fourth stretch is its five windows in order. -/
theorem pre3_cutK : after KernelIdeal.Gen.hostOps0_3 V = after validK (after stackK (after clipK (after catK (after decK V)))) := by
  rw [after_cut 64 KernelIdeal.Gen.hostOps0_3, after_cut 1 (KernelIdeal.Gen.hostOps0_3.drop 64),
    after_cut 36 ((KernelIdeal.Gen.hostOps0_3.drop 64).drop 1), after_cut 1 (((KernelIdeal.Gen.hostOps0_3.drop 64).drop 1).drop 36)]
/-- The reference's fourth stretch is its five windows in order. -/
theorem pre3_cutR : after ReferenceIdeal.Gen.hostOps0_3 V' = after validR (after stackR (after clipR (after catR (after decR V')))) := by
  rw [after_cut 64 ReferenceIdeal.Gen.hostOps0_3, after_cut 1 (ReferenceIdeal.Gen.hostOps0_3.drop 64),
    after_cut 36 ((ReferenceIdeal.Gen.hostOps0_3.drop 64).drop 1), after_cut 1 (((ReferenceIdeal.Gen.hostOps0_3.drop 64).drop 1).drop 36)]

set_option maxHeartbeats 4000000 in
/-- The four columns of the decoded boxes. -/
theorem dec (h : V KernelIdeal.main_v0 = V' ReferenceIdeal.main_v0) (h' : V KernelIdeal.main_v1 = V' ReferenceIdeal.main_v1) :
    after decK V KernelIdeal.main_v54 = after decR V' ReferenceIdeal.main_v54
    ∧ after decK V KernelIdeal.main_v55 = after decR V' ReferenceIdeal.main_v55
    ∧ after decK V KernelIdeal.main_v56 = after decR V' ReferenceIdeal.main_v56
    ∧ after decK V KernelIdeal.main_v57 = after decR V' ReferenceIdeal.main_v57 := by
  simp only [decK, decR, KernelIdeal.Gen.hostOps0_3, ReferenceIdeal.Gen.hostOps0_3, List.take]
  after_results_simp
  rw [h, h']
  exact ⟨rfl, rfl, rfl, rfl⟩

/-- The stack of the four columns. -/
theorem cat_valueK :
    after catK V KernelIdeal.main_v58
      = concatenate KernelIdeal.S6000x4 1 [⟨KernelIdeal.S6000x1, V KernelIdeal.main_v54⟩,
        ⟨KernelIdeal.S6000x1, V KernelIdeal.main_v55⟩,
        ⟨KernelIdeal.S6000x1, V KernelIdeal.main_v56⟩,
        ⟨KernelIdeal.S6000x1, V KernelIdeal.main_v57⟩]
        KernelIdeal.Gen.concatenates_S6000x1_S6000x1_S6000x1_S6000x1_S6000x4_d1 := by
  simp only [catK, KernelIdeal.Gen.hostOps0_3, List.take, List.drop, after_cons, after_nil]
  exact nary4_result _ _ _ V

/-- The stack of the four columns. -/
theorem cat_valueR :
    after catR V' ReferenceIdeal.main_v58
      = concatenate ReferenceIdeal.S6000x4 1 [⟨ReferenceIdeal.S6000x1, V' ReferenceIdeal.main_v54⟩,
        ⟨ReferenceIdeal.S6000x1, V' ReferenceIdeal.main_v55⟩,
        ⟨ReferenceIdeal.S6000x1, V' ReferenceIdeal.main_v56⟩,
        ⟨ReferenceIdeal.S6000x1, V' ReferenceIdeal.main_v57⟩]
        ReferenceIdeal.Gen.concatenates_S6000x1_S6000x1_S6000x1_S6000x1_S6000x4_d1 := by
  simp only [catR, ReferenceIdeal.Gen.hostOps0_3, List.take, List.drop, after_cons, after_nil]
  exact nary4_result _ _ _ V'

/-- The decoded boxes. -/
theorem cat (h0 : V KernelIdeal.main_v54 = V' ReferenceIdeal.main_v54) (h1 : V KernelIdeal.main_v55 = V' ReferenceIdeal.main_v55)
    (h2 : V KernelIdeal.main_v56 = V' ReferenceIdeal.main_v56) (h3 : V KernelIdeal.main_v57 = V' ReferenceIdeal.main_v57) :
    after catK V KernelIdeal.main_v58 = after catR V' ReferenceIdeal.main_v58 := by
  rw [cat_valueK, cat_valueR, h0, h1, h2, h3]

set_option maxHeartbeats 4000000 in
/-- The four columns of the clipped boxes, as vectors and as columns. -/
theorem clip (h : V KernelIdeal.main_v58 = V' ReferenceIdeal.main_v58) :
    after clipK V KernelIdeal.main_v83 = after clipR V' ReferenceIdeal.main_v83
    ∧ after clipK V KernelIdeal.main_v84 = after clipR V' ReferenceIdeal.main_v84
    ∧ after clipK V KernelIdeal.main_v85 = after clipR V' ReferenceIdeal.main_v85
    ∧ after clipK V KernelIdeal.main_v86 = after clipR V' ReferenceIdeal.main_v86
    ∧ after clipK V KernelIdeal.main_v64 = after clipR V' ReferenceIdeal.main_v64
    ∧ after clipK V KernelIdeal.main_v70 = after clipR V' ReferenceIdeal.main_v70
    ∧ after clipK V KernelIdeal.main_v76 = after clipR V' ReferenceIdeal.main_v76
    ∧ after clipK V KernelIdeal.main_v82 = after clipR V' ReferenceIdeal.main_v82 := by
  simp only [clipK, clipR, KernelIdeal.Gen.hostOps0_3, ReferenceIdeal.Gen.hostOps0_3, List.take, List.drop]
  after_results_simp
  rw [h]
  exact ⟨rfl, rfl, rfl, rfl, rfl, rfl, rfl, rfl⟩

/-- The stack of the four columns. -/
theorem stack_valueK :
    after stackK V KernelIdeal.main_v87
      = concatenate KernelIdeal.S6000x4 1 [⟨KernelIdeal.S6000x1, V KernelIdeal.main_v83⟩,
        ⟨KernelIdeal.S6000x1, V KernelIdeal.main_v84⟩,
        ⟨KernelIdeal.S6000x1, V KernelIdeal.main_v85⟩,
        ⟨KernelIdeal.S6000x1, V KernelIdeal.main_v86⟩]
        KernelIdeal.Gen.concatenates_S6000x1_S6000x1_S6000x1_S6000x1_S6000x4_d1 := by
  simp only [stackK, KernelIdeal.Gen.hostOps0_3, List.take, List.drop, after_cons, after_nil]
  exact nary4_result _ _ _ V

/-- The stack of the four columns. -/
theorem stack_valueR :
    after stackR V' ReferenceIdeal.main_v87
      = concatenate ReferenceIdeal.S6000x4 1 [⟨ReferenceIdeal.S6000x1, V' ReferenceIdeal.main_v83⟩,
        ⟨ReferenceIdeal.S6000x1, V' ReferenceIdeal.main_v84⟩,
        ⟨ReferenceIdeal.S6000x1, V' ReferenceIdeal.main_v85⟩,
        ⟨ReferenceIdeal.S6000x1, V' ReferenceIdeal.main_v86⟩]
        ReferenceIdeal.Gen.concatenates_S6000x1_S6000x1_S6000x1_S6000x1_S6000x4_d1 := by
  simp only [stackR, ReferenceIdeal.Gen.hostOps0_3, List.take, List.drop, after_cons, after_nil]
  exact nary4_result _ _ _ V'

/-- The clipped boxes. -/
theorem stack (h0 : V KernelIdeal.main_v83 = V' ReferenceIdeal.main_v83) (h1 : V KernelIdeal.main_v84 = V' ReferenceIdeal.main_v84)
    (h2 : V KernelIdeal.main_v85 = V' ReferenceIdeal.main_v85) (h3 : V KernelIdeal.main_v86 = V' ReferenceIdeal.main_v86) :
    after stackK V KernelIdeal.main_v87 = after stackR V' ReferenceIdeal.main_v87 := by
  rw [stack_valueK, stack_valueR, h0, h1, h2, h3]

set_option maxHeartbeats 2000000 in
/-- Which boxes are not degenerate, and the score of those that are. -/
theorem valid (h0 : V KernelIdeal.main_v64 = V' ReferenceIdeal.main_v64) (h1 : V KernelIdeal.main_v70 = V' ReferenceIdeal.main_v70)
    (h2 : V KernelIdeal.main_v76 = V' ReferenceIdeal.main_v76) (h3 : V KernelIdeal.main_v82 = V' ReferenceIdeal.main_v82) :
    after validK V KernelIdeal.main_v94 = after validR V' ReferenceIdeal.main_v94
    ∧ after validK V KernelIdeal.main_cst_17 = after validR V' ReferenceIdeal.main_cst_17 := by
  simp only [validK, validR, KernelIdeal.Gen.hostOps0_3, ReferenceIdeal.Gen.hostOps0_3, List.drop]
  after_results_simp
  rw [h0, h1, h2, h3]
  exact ⟨rfl, trivial⟩

/-! ## The masked scores, their order, and the sorted boxes and scores -/

/-- The scores, with minus infinity for the degenerate boxes. -/
theorem pre4 (h : V KernelIdeal.main_v94 = V' ReferenceIdeal.main_v94) (h' : V KernelIdeal.main_values = V' ReferenceIdeal.main_values)
    (hc : V KernelIdeal.main_cst_17 = V' ReferenceIdeal.main_cst_17) :
    after KernelIdeal.Gen.hostOps0_4 V KernelIdeal.main_v95 = after ReferenceIdeal.Gen.hostOps0_4 V' ReferenceIdeal.main_v95 := by
  simp only [KernelIdeal.Gen.hostOps0_4, ReferenceIdeal.Gen.hostOps0_4]
  after_results_simp
  rw [h, h', hc]

/-- Their negations, to be sorted. -/
theorem pre5 (h : V KernelIdeal.main_v95 = V' ReferenceIdeal.main_v95) :
    after KernelIdeal.Gen.hostOps0_5 V KernelIdeal.main_v96 = after ReferenceIdeal.Gen.hostOps0_5 V' ReferenceIdeal.main_v96 := by
  simp only [KernelIdeal.Gen.hostOps0_5, ReferenceIdeal.Gen.hostOps0_5]
  after_results_simp
  rw [h]

/-- The order of the boxes. -/
theorem pre6 (h : V KernelIdeal.main_v96 = V' ReferenceIdeal.main_v96) :
    after KernelIdeal.Gen.hostOps0_6 V KernelIdeal.main_v97 = after ReferenceIdeal.Gen.hostOps0_6 V' ReferenceIdeal.main_v97 := by
  simp only [KernelIdeal.Gen.hostOps0_6, ReferenceIdeal.Gen.hostOps0_6]
  after_results_simp
  rw [h]
  rfl

set_option maxHeartbeats 2000000 in
/-- The sorted boxes. -/
theorem pre7 (h : V KernelIdeal.main_v87 = V' ReferenceIdeal.main_v87) (h' : V KernelIdeal.main_v97 = V' ReferenceIdeal.main_v97) :
    after KernelIdeal.Gen.hostOps0_7 V KernelIdeal.main_v98 = after ReferenceIdeal.Gen.hostOps0_7 V' ReferenceIdeal.main_v98 := by
  simp only [KernelIdeal.Gen.hostOps0_7, ReferenceIdeal.Gen.hostOps0_7]
  after_results_simp
  rw [h, h']
  rfl

set_option maxHeartbeats 2000000 in
/-- The sorted scores. -/
theorem pre8 (h : V KernelIdeal.main_v95 = V' ReferenceIdeal.main_v95) (h' : V KernelIdeal.main_v97 = V' ReferenceIdeal.main_v97) :
    after KernelIdeal.Gen.hostOps0_8 V KernelIdeal.main_v99 = after ReferenceIdeal.Gen.hostOps0_8 V' ReferenceIdeal.main_v99 := by
  simp only [KernelIdeal.Gen.hostOps0_8, ReferenceIdeal.Gen.hostOps0_8]
  after_results_simp
  rw [h, h']
  rfl

end Cert.Proof.Rel
-- ==== Proof.RelEntry.lean ====
/-
  The two programs enter their loops with the same sorted boxes and the same sorted scores: the lines before the loop,
  stretch by stretch.
-/
module

public import proofs.«01_k».proof.Proof.RelPre
public import proofs.«01_k».proof.Proof.KernelIdealFrame
public import proofs.«01_k».proof.Proof.ReferenceIdealFrame

@[expose] public section

set_option maxRecDepth 100000

noncomputable section

namespace Cert.Proof.Rel

open Idealize.ShloMosaic
open Idealize.ShloMosaic.TcCoe Idealize.ShloMosaic.Tactic
open Idealize.ShloMosaic.StableHlo

variable {F : FTy → Type} [FloatOps F]

variable (V : VK F) (V' : VR F)

/-- The kernel's second stack writes one buffer. -/
theorem keep_stackK {r : Ref Cert.KernelIdeal.sig .tc}
    (h : r ∉ ((((Cert.Proof.KernelIdeal.W_hostOps0_3).drop 64).drop 1).drop 36).take 1) :
    after stackK V (Proc.devRef .tc r) = V (Proc.devRef .tc r) :=
  after_unwritten (((((Cert.Proof.KernelIdeal.W_hostOps0_3).drop 64).drop 1).drop 36).take 1) rfl h V

/-- The reference's second stack writes one buffer. -/
theorem keep_stackR {r : Ref Cert.ReferenceIdeal.sig .tc}
    (h : r ∉ ((((Cert.ReferenceIdeal.Value.hostOps0_3_W).drop 64).drop 1).drop 36).take 1) :
    after stackR V' (Proc.devRef .tc r) = V' (Proc.devRef .tc r) :=
  after_unwritten (((((Cert.ReferenceIdeal.Value.hostOps0_3_W).drop 64).drop 1).drop 36).take 1) rfl h V'

/-- The kernel's validity test leaves every buffer that it does not write. -/
theorem keep_validK {r : Ref Cert.KernelIdeal.sig .tc}
    (h : r ∉ ((((Cert.Proof.KernelIdeal.W_hostOps0_3).drop 64).drop 1).drop 36).drop 1) :
    after validK V (Proc.devRef .tc r) = V (Proc.devRef .tc r) :=
  after_unwritten (((((Cert.Proof.KernelIdeal.W_hostOps0_3).drop 64).drop 1).drop 36).drop 1) rfl h V

/-- The reference's validity test leaves every buffer that it does not write. -/
theorem keep_validR {r : Ref Cert.ReferenceIdeal.sig .tc}
    (h : r ∉ ((((Cert.ReferenceIdeal.Value.hostOps0_3_W).drop 64).drop 1).drop 36).drop 1) :
    after validR V' (Proc.devRef .tc r) = V' (Proc.devRef .tc r) :=
  after_unwritten (((((Cert.ReferenceIdeal.Value.hostOps0_3_W).drop 64).drop 1).drop 36).drop 1) rfl h V'

/-- The boxes decoded and clipped, and which of them are not degenerate. -/
theorem pre3 (h : V KernelIdeal.main_v0 = V' ReferenceIdeal.main_v0) (h' : V KernelIdeal.main_v1 = V' ReferenceIdeal.main_v1) :
    after KernelIdeal.Gen.hostOps0_3 V KernelIdeal.main_v87 = after ReferenceIdeal.Gen.hostOps0_3 V' ReferenceIdeal.main_v87
    ∧ after KernelIdeal.Gen.hostOps0_3 V KernelIdeal.main_v94 = after ReferenceIdeal.Gen.hostOps0_3 V' ReferenceIdeal.main_v94
    ∧ after KernelIdeal.Gen.hostOps0_3 V KernelIdeal.main_cst_17
      = after ReferenceIdeal.Gen.hostOps0_3 V' ReferenceIdeal.main_cst_17 := by
  rw [pre3_cutK, pre3_cutR]
  obtain ⟨d0, d1, d2, d3⟩ := dec V V' h h'
  generalize after decK V = U at d0 d1 d2 d3 ⊢
  generalize after decR V' = U' at d0 d1 d2 d3 ⊢
  have e := cat U U' d0 d1 d2 d3
  generalize after catK U = U1 at e ⊢
  generalize after catR U' = U1' at e ⊢
  obtain ⟨c0, c1, c2, c3, x1, y1, x2, y2⟩ := clip U1 U1' e
  generalize after clipK U1 = U2 at c0 c1 c2 c3 x1 y1 x2 y2 ⊢
  generalize after clipR U1' = U2' at c0 c1 c2 c3 x1 y1 x2 y2 ⊢
  have s := stack U2 U2' c0 c1 c2 c3
  refine ⟨?_, valid _ _ ?_ ?_ ?_ ?_⟩
  · rw [keep_validK (after stackK U2) (r := KernelIdeal.main_v87) (by decide +kernel),
      keep_validR (after stackR U2') (r := ReferenceIdeal.main_v87) (by decide +kernel), s]
  · rw [keep_stackK U2 (r := KernelIdeal.main_v64) (by decide +kernel), keep_stackR U2' (r := ReferenceIdeal.main_v64) (by decide +kernel), x1]
  · rw [keep_stackK U2 (r := KernelIdeal.main_v70) (by decide +kernel), keep_stackR U2' (r := ReferenceIdeal.main_v70) (by decide +kernel), y1]
  · rw [keep_stackK U2 (r := KernelIdeal.main_v76) (by decide +kernel), keep_stackR U2' (r := ReferenceIdeal.main_v76) (by decide +kernel), x2]
  · rw [keep_stackK U2 (r := KernelIdeal.main_v82) (by decide +kernel), keep_stackR U2' (r := ReferenceIdeal.main_v82) (by decide +kernel), y2]

/-- The stretches before the loop: from equal arguments, equal sorted boxes and equal sorted scores. -/
theorem pre_eq (V0 : VK F) (V0' : VR F) (h_arg0 : V0 KernelIdeal.main_arg0 = V0' ReferenceIdeal.main_arg0)
    (h_arg1 : V0 KernelIdeal.main_arg1 = V0' ReferenceIdeal.main_arg1)
    (h_arg2 : V0 KernelIdeal.main_arg2 = V0' ReferenceIdeal.main_arg2) :
    afterL Cert.Proof.KernelIdeal.preI V0 KernelIdeal.main_v98 = afterL ReferenceIdeal.Value.preI V0' ReferenceIdeal.main_v98
    ∧ afterL Cert.Proof.KernelIdeal.preI V0 KernelIdeal.main_v99 = afterL ReferenceIdeal.Value.preI V0' ReferenceIdeal.main_v99 := by
  simp only [afterL_cons, afterL_nil]
  have g_values := pre0_values V0 V0' h_arg2
  have g_indices := pre0_indices V0 V0' h_arg2
  have g_arg0 := ((Cert.Proof.KernelIdeal.keep_hostOps0 V0 (r := KernelIdeal.main_arg0) (by decide +kernel)).trans
    (h_arg0.trans (after_of_writes_sub (r := ReferenceIdeal.main_arg0) _ V0' ReferenceIdeal.Value.hostOps0_writes (by decide +kernel)).symm))
  have g_arg1 := ((Cert.Proof.KernelIdeal.keep_hostOps0 V0 (r := KernelIdeal.main_arg1) (by decide +kernel)).trans
    (h_arg1.trans (after_of_writes_sub (r := ReferenceIdeal.main_arg1) _ V0' ReferenceIdeal.Value.hostOps0_writes (by decide +kernel)).symm))
  generalize after KernelIdeal.Gen.hostOps0 V0 = V1 at g_values g_indices g_arg0 g_arg1 ⊢
  generalize after ReferenceIdeal.Gen.hostOps0 V0' = V1' at g_values g_indices g_arg0 g_arg1 ⊢
  clear h_arg0 h_arg1 h_arg2
  rename' g_values => h_values, g_indices => h_indices, g_arg0 => h_arg0, g_arg1 => h_arg1
  have g_v0 := pre1 V1 V1' h_arg1 h_indices
  have g_arg0 := ((Cert.Proof.KernelIdeal.keep_hostOps0_1 V1 (r := KernelIdeal.main_arg0) (by decide +kernel)).trans
    (h_arg0.trans (after_of_writes_sub (r := ReferenceIdeal.main_arg0) _ V1' ReferenceIdeal.Value.hostOps0_1_writes (by decide +kernel)).symm))
  have g_indices := ((Cert.Proof.KernelIdeal.keep_hostOps0_1 V1 (r := KernelIdeal.main_indices) (by decide +kernel)).trans
    (h_indices.trans (after_of_writes_sub (r := ReferenceIdeal.main_indices) _ V1' ReferenceIdeal.Value.hostOps0_1_writes (by decide +kernel)).symm))
  have g_values := ((Cert.Proof.KernelIdeal.keep_hostOps0_1 V1 (r := KernelIdeal.main_values) (by decide +kernel)).trans
    (h_values.trans (after_of_writes_sub (r := ReferenceIdeal.main_values) _ V1' ReferenceIdeal.Value.hostOps0_1_writes (by decide +kernel)).symm))
  generalize after KernelIdeal.Gen.hostOps0_1 V1 = V2 at g_v0 g_arg0 g_indices g_values ⊢
  generalize after ReferenceIdeal.Gen.hostOps0_1 V1' = V2' at g_v0 g_arg0 g_indices g_values ⊢
  clear h_values h_indices h_arg0 h_arg1
  rename' g_v0 => h_v0, g_arg0 => h_arg0, g_indices => h_indices, g_values => h_values
  have g_v1 := pre2 V2 V2' h_arg0 h_indices
  have g_v0 := ((Cert.Proof.KernelIdeal.keep_hostOps0_2 V2 (r := KernelIdeal.main_v0) (by decide +kernel)).trans
    (h_v0.trans (after_of_writes_sub (r := ReferenceIdeal.main_v0) _ V2' ReferenceIdeal.Value.hostOps0_2_writes (by decide +kernel)).symm))
  have g_values := ((Cert.Proof.KernelIdeal.keep_hostOps0_2 V2 (r := KernelIdeal.main_values) (by decide +kernel)).trans
    (h_values.trans (after_of_writes_sub (r := ReferenceIdeal.main_values) _ V2' ReferenceIdeal.Value.hostOps0_2_writes (by decide +kernel)).symm))
  generalize after KernelIdeal.Gen.hostOps0_2 V2 = V3 at g_v1 g_v0 g_values ⊢
  generalize after ReferenceIdeal.Gen.hostOps0_2 V2' = V3' at g_v1 g_v0 g_values ⊢
  clear h_v0 h_arg0 h_indices h_values
  rename' g_v1 => h_v1, g_v0 => h_v0, g_values => h_values
  have g_v87 := (pre3 V3 V3' h_v0 h_v1).1
  have g_v94 := (pre3 V3 V3' h_v0 h_v1).2.1
  have g_cst_17 := (pre3 V3 V3' h_v0 h_v1).2.2
  have g_values := ((Cert.Proof.KernelIdeal.keep_hostOps0_3 V3 (r := KernelIdeal.main_values) (by decide +kernel)).trans
    (h_values.trans (after_of_writes_sub (r := ReferenceIdeal.main_values) _ V3' ReferenceIdeal.Value.hostOps0_3_writes (by decide +kernel)).symm))
  generalize after KernelIdeal.Gen.hostOps0_3 V3 = V4 at g_v87 g_v94 g_cst_17 g_values ⊢
  generalize after ReferenceIdeal.Gen.hostOps0_3 V3' = V4' at g_v87 g_v94 g_cst_17 g_values ⊢
  clear h_v1 h_v0 h_values
  rename' g_v87 => h_v87, g_v94 => h_v94, g_cst_17 => h_cst_17, g_values => h_values
  have g_v95 := pre4 V4 V4' h_v94 h_values h_cst_17
  have g_v87 := ((Cert.Proof.KernelIdeal.keep_hostOps0_4 V4 (r := KernelIdeal.main_v87) (by decide +kernel)).trans
    (h_v87.trans (after_of_writes_sub (r := ReferenceIdeal.main_v87) _ V4' ReferenceIdeal.Value.hostOps0_4_writes (by decide +kernel)).symm))
  generalize after KernelIdeal.Gen.hostOps0_4 V4 = V5 at g_v95 g_v87 ⊢
  generalize after ReferenceIdeal.Gen.hostOps0_4 V4' = V5' at g_v95 g_v87 ⊢
  clear h_v87 h_v94 h_cst_17 h_values
  rename' g_v95 => h_v95, g_v87 => h_v87
  have g_v96 := pre5 V5 V5' h_v95
  have g_v87 := ((Cert.Proof.KernelIdeal.keep_hostOps0_5 V5 (r := KernelIdeal.main_v87) (by decide +kernel)).trans
    (h_v87.trans (after_of_writes_sub (r := ReferenceIdeal.main_v87) _ V5' ReferenceIdeal.Value.hostOps0_5_writes (by decide +kernel)).symm))
  have g_v95 := ((Cert.Proof.KernelIdeal.keep_hostOps0_5 V5 (r := KernelIdeal.main_v95) (by decide +kernel)).trans
    (h_v95.trans (after_of_writes_sub (r := ReferenceIdeal.main_v95) _ V5' ReferenceIdeal.Value.hostOps0_5_writes (by decide +kernel)).symm))
  generalize after KernelIdeal.Gen.hostOps0_5 V5 = V6 at g_v96 g_v87 g_v95 ⊢
  generalize after ReferenceIdeal.Gen.hostOps0_5 V5' = V6' at g_v96 g_v87 g_v95 ⊢
  clear h_v95 h_v87
  rename' g_v96 => h_v96, g_v87 => h_v87, g_v95 => h_v95
  have g_v97 := pre6 V6 V6' h_v96
  have g_v87 := ((Cert.Proof.KernelIdeal.keep_hostOps0_6 V6 (r := KernelIdeal.main_v87) (by decide +kernel)).trans
    (h_v87.trans (after_of_writes_sub (r := ReferenceIdeal.main_v87) _ V6' ReferenceIdeal.Value.hostOps0_6_writes (by decide +kernel)).symm))
  have g_v95 := ((Cert.Proof.KernelIdeal.keep_hostOps0_6 V6 (r := KernelIdeal.main_v95) (by decide +kernel)).trans
    (h_v95.trans (after_of_writes_sub (r := ReferenceIdeal.main_v95) _ V6' ReferenceIdeal.Value.hostOps0_6_writes (by decide +kernel)).symm))
  generalize after KernelIdeal.Gen.hostOps0_6 V6 = V7 at g_v97 g_v87 g_v95 ⊢
  generalize after ReferenceIdeal.Gen.hostOps0_6 V6' = V7' at g_v97 g_v87 g_v95 ⊢
  clear h_v96 h_v87 h_v95
  rename' g_v97 => h_v97, g_v87 => h_v87, g_v95 => h_v95
  have g_v98 := pre7 V7 V7' h_v87 h_v97
  have g_v95 := ((Cert.Proof.KernelIdeal.keep_hostOps0_7 V7 (r := KernelIdeal.main_v95) (by decide +kernel)).trans
    (h_v95.trans (after_of_writes_sub (r := ReferenceIdeal.main_v95) _ V7' ReferenceIdeal.Value.hostOps0_7_writes (by decide +kernel)).symm))
  have g_v97 := ((Cert.Proof.KernelIdeal.keep_hostOps0_7 V7 (r := KernelIdeal.main_v97) (by decide +kernel)).trans
    (h_v97.trans (after_of_writes_sub (r := ReferenceIdeal.main_v97) _ V7' ReferenceIdeal.Value.hostOps0_7_writes (by decide +kernel)).symm))
  generalize after KernelIdeal.Gen.hostOps0_7 V7 = V8 at g_v98 g_v95 g_v97 ⊢
  generalize after ReferenceIdeal.Gen.hostOps0_7 V7' = V8' at g_v98 g_v95 g_v97 ⊢
  clear h_v97 h_v87 h_v95
  rename' g_v98 => h_v98, g_v95 => h_v95, g_v97 => h_v97
  have g_v99 := pre8 V8 V8' h_v95 h_v97
  have g_v98 := ((Cert.Proof.KernelIdeal.keep_hostOps0_8 V8 (r := KernelIdeal.main_v98) (by decide +kernel)).trans
    (h_v98.trans (after_of_writes_sub (r := ReferenceIdeal.main_v98) _ V8' ReferenceIdeal.Value.hostOps0_8_writes (by decide +kernel)).symm))
  generalize after KernelIdeal.Gen.hostOps0_8 V8 = V9 at g_v99 g_v98 ⊢
  generalize after ReferenceIdeal.Gen.hostOps0_8 V8' = V9' at g_v99 g_v98 ⊢
  clear h_v98 h_v95 h_v97
  rename' g_v99 => h_v99, g_v98 => h_v98
  have g_v98 := ((Cert.Proof.KernelIdeal.keep_hostOps0_9 V9 (r := KernelIdeal.main_v98) (by decide +kernel)).trans
    (h_v98.trans (after_of_writes_sub (r := ReferenceIdeal.main_v98) _ V9' ReferenceIdeal.Value.hostOps0_9_writes (by decide +kernel)).symm))
  have g_v99 := ((Cert.Proof.KernelIdeal.keep_hostOps0_9 V9 (r := KernelIdeal.main_v99) (by decide +kernel)).trans
    (h_v99.trans (after_of_writes_sub (r := ReferenceIdeal.main_v99) _ V9' ReferenceIdeal.Value.hostOps0_9_writes (by decide +kernel)).symm))
  exact ⟨g_v98, g_v99⟩

end Cert.Proof.Rel
-- ==== Proof.Boxes.lean ====
/-
  The boxes read one at a time: a column of the array of boxes, one coordinate of one box, one entry of a vector; and, over
  these, a box's area and the test that two boxes overlap by more than the threshold.
-/
module

public import proofs.«01_k».proof.Proof.Gen.KernelIdeal.Launch
public import proofs.«01_k».proof.ReferenceIdeal
public import Idealize.ShloMosaic.Lib.PointwiseCore
public import Idealize.ShloMosaic.Lib.DynamicIndex

@[expose] public section

noncomputable section

namespace Cert.Proof.Boxes

open Cert.KernelIdeal
open Cert.ReferenceIdeal (S6000x6000)
open Idealize.ShloMosaic

variable {F : FTy → Type} [FloatOps F]

/-- Column `c` of the boxes, cut out and flattened, read at box `j`. -/
theorem col_at (B : FVec F S6000x4 .f32) (c : Fin 4) (off : Fin 2 → ℕ) (hoff : off = ![0, c.val]) (hs : S6000x4.Slices off S6000x1)
    (hc : S6000x1.ShapeCasts S6000) (j : Fin 6000) :
    shapeCast S6000 (extractStridedSlice S6000x1 off B hs) hc (ix1 j) = B (ix2 j c) := by
  subst hoff
  pointwise

/-- One coordinate of one box, read by a slice of one element at a computed start. -/
theorem box_at (B : FVec F S6000x4 .f32) (start : Fin 2 → Int) (n : Fin 6000) (c : Fin 4) (h0 : start 0 = (n.val : Int))
    (h1 : start 1 = (c.val : Int)) (h : S6000x4.Slices (fun _ => 0) S1x1) (hc : S1x1.ShapeCasts S_) (u : S_.Idx) :
    shapeCast S_ (Host.dynamicSlice S1x1 B start h) hc u = B (ix2 n c) := by
  have hn := n.isLt
  have hcl := c.isLt
  rw [Host.dynamicSlice_eq_extractStridedSlice S1x1 B start ![n.val, c.val] h
    ⟨h.1, by intro a; fin_cases a <;> simp <;> omega⟩ (by intro a; fin_cases a <;> simp [h0, h1])]
  show B _ = B _
  congr 1
  funext a
  fin_cases a
  · apply Fin.ext
    have := (Shape.reshapeEquiv hc u 0).isLt
    show n.val + (Shape.reshapeEquiv hc u 0).val = n.val
    have h2 : (Shape.reshapeEquiv hc u 0).val < 1 := this
    omega
  · apply Fin.ext
    have := (Shape.reshapeEquiv hc u 1).isLt
    show c.val + (Shape.reshapeEquiv hc u 1).val = c.val
    have h2 : (Shape.reshapeEquiv hc u 1).val < 1 := this
    omega

/-- One entry of a vector, read by a slice of one element at a computed start. -/
theorem vec_at {α : Type} (A : S6000.Idx → α) (start : Fin 1 → Int) (n : Fin 6000) (h0 : start 0 = (n.val : Int))
    (h : S6000.Slices (fun _ => 0) S1) (hc : S1.ShapeCasts S_) (u : S_.Idx) :
    shapeCast S_ (Host.dynamicSlice S1 A start h) hc u = A (ix1 n) := by
  have hn := n.isLt
  rw [Host.dynamicSlice_eq_extractStridedSlice S1 A start ![n.val] h
    ⟨h.1, by intro a; fin_cases a; simp; omega⟩ (by intro a; fin_cases a; simp [h0])]
  show A _ = A _
  congr 1
  funext a
  fin_cases a
  apply Fin.ext
  have := (Shape.reshapeEquiv hc u 0).isLt
  show n.val + (Shape.reshapeEquiv hc u 0).val = n.val
  have h2 : (Shape.reshapeEquiv hc u 0).val < 1 := this
  omega

/-- Column `n` of a square table, cut out at a computed start and flattened, read at row `i`. -/
theorem tableCol_at {α : Type} (T : S6000x6000.Idx → α) (start : Fin 2 → Int) (n : Fin 6000) (h0 : start 0 = 0)
    (h1 : start 1 = (n.val : Int)) (h : S6000x6000.Slices (fun _ => 0) S6000x1) (hc : S6000x1.ShapeCasts S6000) (i : Fin 6000) :
    shapeCast S6000 (Host.dynamicSlice S6000x1 T start h) hc (ix1 i) = T (ix2 i n) := by
  have hn := n.isLt
  rw [Host.dynamicSlice_eq_extractStridedSlice S6000x1 T start ![0, n.val] h
    ⟨h.1, by intro a; fin_cases a <;> simp; omega⟩ (by intro a; fin_cases a <;> simp [h0, h1])]
  pointwise

/-- The loop's index as a program reads it: an index below zero would count from the end. -/
theorem index_norm (n : ℕ) (hn : n < 6000) (e : IVec S_ 32) :
    select (cmpi .slt (fun _ : S_.Idx => BitVec.ofNat 32 n) (constantI S_ 32 0#32)) e (fun _ : S_.Idx => BitVec.ofNat 32 n)
      = fun _ => BitVec.ofNat 32 n := by
  funext u
  refine select_slt_zero_of_nonneg _ _ _ u ?_
  show 0 ≤ (BitVec.ofNat 32 n).toInt
  rw [toInt_ofNat_of_lt (by omega)]
  omega

/-- A box's area. -/
def area (B : FVec F S6000x4 .f32) (j : Fin 6000) : F .f32 :=
  FloatOps.mulf (FloatOps.subf (B (ix2 j 2)) (B (ix2 j 0))) (FloatOps.subf (B (ix2 j 3)) (B (ix2 j 1)))

/-- The larger of two boxes' coordinates `c`, and the smaller. -/
def larger (B : FVec F S6000x4 .f32) (c : Fin 4) (i j : Fin 6000) : F .f32 := FloatOps.maximumf (B (ix2 i c)) (B (ix2 j c))
/-- The smaller of two boxes' coordinates `c`. -/
def smaller (B : FVec F S6000x4 .f32) (c : Fin 4) (i j : Fin 6000) : F .f32 := FloatOps.minimumf (B (ix2 i c)) (B (ix2 j c))

/-- The area of two boxes' intersection. -/
def inter (B : FVec F S6000x4 .f32) (i j : Fin 6000) : F .f32 :=
  FloatOps.mulf (FloatOps.maximumf (FloatOps.subf (smaller B 2 i j) (larger B 0 i j)) (FloatOps.ofBits .f32 0x00000000#32))
    (FloatOps.maximumf (FloatOps.subf (smaller B 3 i j) (larger B 1 i j)) (FloatOps.ofBits .f32 0x00000000#32))

/-- The test that the boxes `i` and `j` overlap: their intersection over their union is above the threshold. -/
def over (B : FVec F S6000x4 .f32) (i j : Fin 6000) : BitVec 1 :=
  FloatOps.cmpf .ogt
    (FloatOps.hostDivf (inter B i j)
      (FloatOps.addf (FloatOps.subf (FloatOps.addf (area B i) (area B j)) (inter B i j)) (FloatOps.ofBits .f32 0x3089705F#32)))
    (FloatOps.ofBits .f32 0x3F333333#32)

/-- A bit that is not one is zero. -/
theorem bit_cases (b : BitVec 1) : b = 0#1 ∨ b = 1#1 := by
  revert b
  decide

/-- The disjunction of two bits is one exactly when one of them is. -/
theorem ori_eq_one (a b : BitVec 1) : IntOp.ori a b = 1#1 ↔ a = 1#1 ∨ b = 1#1 := by
  revert a b
  decide

/-- The conjunction of two bits is one exactly when both are. -/
theorem andi_eq_one (a b : BitVec 1) : IntOp.andi a b = 1#1 ↔ a = 1#1 ∧ b = 1#1 := by
  revert a b
  decide

/-- The complement of a bit is one exactly when the bit is not. -/
theorem not_eq_one (a : BitVec 1) : ~~~a = 1#1 ↔ ¬a = 1#1 := by
  revert a
  decide

/-- A disjunction folded along a list. -/
theorem foldl_ori {ι : Type} (x : ι → BitVec 1) (L : List ι) (b : BitVec 1) :
    L.foldl (fun r n => IntOp.ori r (x n)) b = 1#1 ↔ b = 1#1 ∨ ∃ n ∈ L, x n = 1#1 := by
  induction L generalizing b with
  | nil => simp
  | cons n L ih =>
    rw [List.foldl_cons, ih, ori_eq_one]
    simp only [List.mem_cons, exists_eq_or_imp, or_assoc]

/-- The disjunction of all entries of a vector of bits is one exactly when some entry is. -/
theorem any_iff (x : S6000.Idx → BitVec 1) (h : S6000.ReducesTo [0] S_) (hu : 0 < S_.numel) (u : S_.Idx) :
    Host.reduce IntOp.ori x (constantI S_ 1 0#1) h hu u = 1#1 ↔ ∃ i : Fin 6000, x (ix1 i) = 1#1 := by
  unfold Host.reduce
  rw [foldl_ori (fun n => x (S6000.rowMajor.symm n))]
  constructor
  · rintro (h0 | ⟨n, _, hn⟩)
    · exact absurd (show (0#1 : BitVec 1) = 1#1 from h0) (by decide)
    · exact ⟨S6000.rowMajor.symm n 0, by rw [ix1_eta]; exact hn⟩
  · rintro ⟨i, hi⟩
    refine Or.inr ⟨S6000.rowMajor (ix1 i), ?_, by rw [Equiv.symm_apply_apply]; exact hi⟩
    rw [List.mem_filter]
    refine ⟨List.mem_finRange _, ?_⟩
    rw [decide_eq_true_eq]
    funext a
    exact a.elim0

end Cert.Proof.Boxes
-- ==== Proof.KernelIdealTrip.lean ====
/-
  One trip of the kernel's loop, read box by box: the trip of index `n` keeps box `j` exactly when `j` was kept and is not
  struck out by box `n`, which must be kept, come before `j` and overlap it. The trip's operations are cut into seven
  windows: the four extreme coordinates, the intersection, the overlap test, the update.
-/
module

public import proofs.«01_k».proof.Proof.KernelIdealFrame
public import proofs.«01_k».proof.Proof.Boxes
public import proofs.«01_k».proof.Proof.RelPre

@[expose] public section

set_option maxRecDepth 100000

noncomputable section

namespace Cert.Proof.KernelIdeal

open Cert.KernelIdeal Cert.KernelIdeal.Gen
open Cert.Proof.Boxes
open Cert.Proof.Rel (after_cut)

open Idealize.ShloMosaic
open Idealize.ShloMosaic.TcCoe Idealize.ShloMosaic.Tactic
open Idealize.ShloMosaic.StableHlo

variable {F : FTy → Type} [FloatOps F]

/-! ## The windows -/

/-- The operations of the larger first coordinates. -/
abbrev tx1 : List (HloOp τ sig (Elt F)) := (while0Ops0).take 22
/-- The operations of the larger second coordinates. -/
abbrev ty1 : List (HloOp τ sig (Elt F)) := ((while0Ops0).drop 22).take 20
/-- The operations of the smaller third coordinates. -/
abbrev tx2 : List (HloOp τ sig (Elt F)) := (((while0Ops0).drop 22).drop 20).take 20
/-- The operations of the smaller fourth coordinates. -/
abbrev ty2 : List (HloOp τ sig (Elt F)) := ((((while0Ops0).drop 22).drop 20).drop 20).take 20
/-- The operations of the intersections. -/
abbrev tinter : List (HloOp τ sig (Elt F)) := (((((while0Ops0).drop 22).drop 20).drop 20).drop 20).take 9
/-- The operations of the overlap tests. -/
abbrev tover : List (HloOp τ sig (Elt F)) := ((((((while0Ops0).drop 22).drop 20).drop 20).drop 20).drop 9).take 18
/-- The operations of the update. -/
abbrev tkeep : List (HloOp τ sig (Elt F)) := ((((((while0Ops0).drop 22).drop 20).drop 20).drop 20).drop 9).drop 18

/-- The trip is its seven windows in order. -/
theorem trip_cut (V : Valuation τ sig (Elt F)) :
    after while0Ops0 V = after tkeep (after tover (after tinter (after ty2 (after tx2 (after ty1 (after tx1 V)))))) := by
  rw [after_cut 22 (while0Ops0),
    after_cut 20 ((while0Ops0).drop 22),
    after_cut 20 (((while0Ops0).drop 22).drop 20),
    after_cut 20 ((((while0Ops0).drop 22).drop 20).drop 20),
    after_cut 9 (((((while0Ops0).drop 22).drop 20).drop 20).drop 20),
    after_cut 18 ((((((while0Ops0).drop 22).drop 20).drop 20).drop 20).drop 9)]

variable (V : Valuation τ sig (Elt F)) (B : FVec F S6000x4 .f32) (n : Fin 6000)

/-- The loop's index, as the trip reads it. -/
theorem row_start (e : IVec S_ 32) :
    (select (cmpi .slt (fun _ : S_.Idx => BitVec.ofNat 32 n.val) (constantI S_ 32 0#32)) e
      (fun _ : S_.Idx => BitVec.ofNat 32 n.val) (Shape.Idx.first h_S_)).toInt = (n.val : Int) :=
  (congrArg (fun v : IVec S_ 32 => (v (Shape.Idx.first h_S_)).toInt) (index_norm n.val n.isLt _)).trans
    (toInt_ofNat_of_lt (by omega))

/-! ## The extreme coordinates -/

set_option maxHeartbeats 2000000 in
/-- Against box `n`, every box's larger first coordinate. -/
theorem tx1_val (hB : V main_v113_0 = B) (hi : V main_v113_4 = fun _ => BitVec.ofNat 32 n.val) :
    after tx1 V main_while0b_v134 = fun j : S6000.Idx => larger B 0 n (j 0) := by
  simp only [tx1, while0Ops0, List.take]
  after_results_simp_entrywise
  rw [hB, hi]
  funext j
  rw [eq_ix1 j]
  exact congrArg₂ FloatOps.maximumf (box_at B _ n 0 (row_start n _) rfl _ _ _) (col_at B 0 _ rfl _ _ (j 0))

set_option maxHeartbeats 2000000 in
/-- Against box `n`, every box's larger second coordinate. -/
theorem ty1_val (hB : V main_v113_0 = B) (hi : V main_v113_4 = fun _ => BitVec.ofNat 32 n.val) :
    after ty1 V main_while0b_v147 = fun j : S6000.Idx => larger B 1 n (j 0) := by
  simp only [ty1, while0Ops0, List.take, List.drop]
  after_results_simp_entrywise
  rw [hB, hi]
  funext j
  rw [eq_ix1 j]
  exact congrArg₂ FloatOps.maximumf (box_at B _ n 1 (row_start n _) rfl _ _ _) (col_at B 1 _ rfl _ _ (j 0))

set_option maxHeartbeats 2000000 in
/-- Against box `n`, every box's smaller third coordinate. -/
theorem tx2_val (hB : V main_v113_0 = B) (hi : V main_v113_4 = fun _ => BitVec.ofNat 32 n.val) :
    after tx2 V main_while0b_v160 = fun j : S6000.Idx => smaller B 2 n (j 0) := by
  simp only [tx2, while0Ops0, List.take, List.drop]
  after_results_simp_entrywise
  rw [hB, hi]
  funext j
  rw [eq_ix1 j]
  exact congrArg₂ FloatOps.minimumf (box_at B _ n 2 (row_start n _) rfl _ _ _) (col_at B 2 _ rfl _ _ (j 0))

set_option maxHeartbeats 2000000 in
/-- Against box `n`, every box's smaller fourth coordinate. -/
theorem ty2_val (hB : V main_v113_0 = B) (hi : V main_v113_4 = fun _ => BitVec.ofNat 32 n.val) :
    after ty2 V main_while0b_v173 = fun j : S6000.Idx => smaller B 3 n (j 0) := by
  simp only [ty2, while0Ops0, List.take, List.drop]
  after_results_simp_entrywise
  rw [hB, hi]
  funext j
  rw [eq_ix1 j]
  exact congrArg₂ FloatOps.minimumf (box_at B _ n 3 (row_start n _) rfl _ _ _) (col_at B 3 _ rfl _ _ (j 0))

/-! ## The intersection, the overlap test, the update -/

/-- From the extreme coordinates, every box's intersection with box `n`. -/
theorem tinter_val (h0 : V main_while0b_v134 = fun j : S6000.Idx => larger B 0 n (j 0))
    (h1 : V main_while0b_v147 = fun j : S6000.Idx => larger B 1 n (j 0))
    (h2 : V main_while0b_v160 = fun j : S6000.Idx => smaller B 2 n (j 0))
    (h3 : V main_while0b_v173 = fun j : S6000.Idx => smaller B 3 n (j 0)) :
    after tinter V main_while0b_v180 = fun j : S6000.Idx => inter B n (j 0) := by
  simp only [tinter, while0Ops0, List.take, List.drop]
  after_results_simp_entrywise
  rw [h0, h1, h2, h3]
  rfl

set_option maxHeartbeats 2000000 in
/-- From the intersections, which boxes overlap box `n`. -/
theorem tover_val (hA : V main_v113_1 = fun j : S6000.Idx => area B (j 0))
    (hi : V main_v113_4 = fun _ => BitVec.ofNat 32 n.val)
    (h : V main_while0b_v180 = fun j : S6000.Idx => inter B n (j 0)) :
    after tover V main_while0b_v194 = fun j : S6000.Idx => over B n (j 0) := by
  simp only [tover, while0Ops0, List.take, List.drop]
  after_results_simp_entrywise
  rw [hA, hi, h]
  funext j
  refine congrArg (fun a => FloatOps.cmpf .ogt (FloatOps.hostDivf (inter B n (j 0))
    (FloatOps.addf (FloatOps.subf (FloatOps.addf a (area B (j 0))) (inter B n (j 0))) (FloatOps.ofBits .f32 0x3089705F#32)))
    (FloatOps.ofBits .f32 0x3F333333#32)) ?_
  exact vec_at (fun j : S6000.Idx => area B (j 0)) _ n (row_start n _) _ _ _

set_option maxHeartbeats 2000000 in
/-- From the overlaps `o` with box `n` and the boxes kept `k`, the boxes kept after the trip. -/
theorem tkeep_val (k : IVec S6000 1) (o : S6000.Idx → BitVec 1) (hk : V main_v113_5 = k)
    (hi : V main_v113_4 = fun _ => BitVec.ofNat 32 n.val)
    (h2 : V main_v113_2 = iotaInDim S6000 32 0)
    (h : V main_while0b_v194 = o) :
    after tkeep V main_v113_5 = fun j : S6000.Idx => IntOp.andi (k j)
      (~~~(IntOp.andi (IntOp.andi (o j) (IntOp.cmpi .sgt (BitVec.ofNat 32 (j 0).val) (BitVec.ofNat 32 n.val)))
        (k (ix1 n)))) := by
  simp only [tkeep, while0Ops0, List.take, List.drop]
  after_results_simp_entrywise
  rw [hk, hi, h2, h]
  funext j
  refine congrArg (fun a => IntOp.andi (k j)
    (~~~(IntOp.andi (IntOp.andi (o j) (IntOp.cmpi .sgt (BitVec.ofNat 32 (j 0).val) (BitVec.ofNat 32 n.val))) a))) ?_
  exact vec_at k _ n (row_start n _) _ _ _

/-! ## The trip -/

/-- The window `tx1` leaves every buffer that it does not write. -/
theorem keep_tx1 {r : Ref sig .tc} (h : r ∉ (W_while0Ops0).take 22) :
    after tx1 V (Proc.devRef .tc r) = V (Proc.devRef .tc r) :=
  after_unwritten ((W_while0Ops0).take 22) rfl h V

/-- The window `ty1` leaves every buffer that it does not write. -/
theorem keep_ty1 {r : Ref sig .tc} (h : r ∉ ((W_while0Ops0).drop 22).take 20) :
    after ty1 V (Proc.devRef .tc r) = V (Proc.devRef .tc r) :=
  after_unwritten (((W_while0Ops0).drop 22).take 20) rfl h V

/-- The window `tx2` leaves every buffer that it does not write. -/
theorem keep_tx2 {r : Ref sig .tc} (h : r ∉ (((W_while0Ops0).drop 22).drop 20).take 20) :
    after tx2 V (Proc.devRef .tc r) = V (Proc.devRef .tc r) :=
  after_unwritten ((((W_while0Ops0).drop 22).drop 20).take 20) rfl h V

/-- The window `ty2` leaves every buffer that it does not write. -/
theorem keep_ty2 {r : Ref sig .tc} (h : r ∉ ((((W_while0Ops0).drop 22).drop 20).drop 20).take 20) :
    after ty2 V (Proc.devRef .tc r) = V (Proc.devRef .tc r) :=
  after_unwritten (((((W_while0Ops0).drop 22).drop 20).drop 20).take 20) rfl h V

/-- The window `tinter` leaves every buffer that it does not write. -/
theorem keep_tinter {r : Ref sig .tc} (h : r ∉ (((((W_while0Ops0).drop 22).drop 20).drop 20).drop 20).take 9) :
    after tinter V (Proc.devRef .tc r) = V (Proc.devRef .tc r) :=
  after_unwritten ((((((W_while0Ops0).drop 22).drop 20).drop 20).drop 20).take 9) rfl h V

/-- The window `tover` leaves every buffer that it does not write. -/
theorem keep_tover {r : Ref sig .tc} (h : r ∉ ((((((W_while0Ops0).drop 22).drop 20).drop 20).drop 20).drop 9).take 18) :
    after tover V (Proc.devRef .tc r) = V (Proc.devRef .tc r) :=
  after_unwritten (((((((W_while0Ops0).drop 22).drop 20).drop 20).drop 20).drop 9).take 18) rfl h V

/-- The trip's index is one more afterwards. -/
theorem trip_index (hi : V main_v113_4 = fun _ => BitVec.ofNat 32 n.val) :
    after while0Ops0 V main_v113_4 = fun _ => BitVec.ofNat 32 (n.val + 1) := by
  have h4 : ∀ (U : Valuation τ sig (Elt F)) , after tkeep U main_v113_4 = U main_while0b_v121 := by
    intro U
    simp only [tkeep, while0Ops0, List.take, List.drop]
    after_results_simp_entrywise
    rfl
  have h1 : after tx1 V main_while0b_v121 = fun _ => BitVec.ofNat 32 (n.val + 1) := by
    simp only [tx1, while0Ops0, List.take]
    after_results_simp_entrywise
    rw [hi]
    funext u
    exact (BitVec.ofNat_add n.val 1).symm
  rw [trip_cut, h4,
    keep_tover _ (r := main_while0b_v121) (by decide +kernel), keep_tinter _ (r := main_while0b_v121) (by decide +kernel),
    keep_ty2 _ (r := main_while0b_v121) (by decide +kernel), keep_tx2 _ (r := main_while0b_v121) (by decide +kernel),
    keep_ty1 _ (r := main_while0b_v121) (by decide +kernel), h1]
  rfl

/-- The trip of index `n`: box `j` stays kept unless box `n` overlaps it, comes before it and is kept. -/
theorem trip_keep (k : IVec S6000 1) (hB : V main_v113_0 = B) (hA : V main_v113_1 = fun j : S6000.Idx => area B (j 0))
    (h2 : V main_v113_2 = iotaInDim S6000 32 0) (hi : V main_v113_4 = fun _ => BitVec.ofNat 32 n.val)
    (hk : V main_v113_5 = k) :
    after while0Ops0 V main_v113_5 = fun j : S6000.Idx => IntOp.andi (k j)
      (~~~(IntOp.andi (IntOp.andi (over B n (j 0)) (IntOp.cmpi .sgt (BitVec.ofNat 32 (j 0).val) (BitVec.ofNat 32 n.val)))
        (k (ix1 n)))) := by
  rw [trip_cut]
  generalize e1 : after tx1 V = V1
  generalize e2 : after ty1 V1 = V2
  generalize e3 : after tx2 V2 = V3
  generalize e4 : after ty2 V3 = V4
  generalize e5 : after tinter V4 = V5
  generalize e6 : after tover V5 = V6
  have k1 : ∀ {r : Ref sig .tc}, r ∉ (W_while0Ops0).take 22 → V1 (Proc.devRef .tc r) = V (Proc.devRef .tc r) :=
    fun h => e1 ▸ keep_tx1 V h
  have k2 : ∀ {r : Ref sig .tc}, r ∉ ((W_while0Ops0).drop 22).take 20 → V2 (Proc.devRef .tc r) = V1 (Proc.devRef .tc r) :=
    fun h => e2 ▸ keep_ty1 V1 h
  have k3 : ∀ {r : Ref sig .tc}, r ∉ (((W_while0Ops0).drop 22).drop 20).take 20 → V3 (Proc.devRef .tc r) = V2 (Proc.devRef .tc r) :=
    fun h => e3 ▸ keep_tx2 V2 h
  have k4 : ∀ {r : Ref sig .tc}, r ∉ ((((W_while0Ops0).drop 22).drop 20).drop 20).take 20 → V4 (Proc.devRef .tc r) = V3 (Proc.devRef .tc r) :=
    fun h => e4 ▸ keep_ty2 V3 h
  have k5 : ∀ {r : Ref sig .tc}, r ∉ (((((W_while0Ops0).drop 22).drop 20).drop 20).drop 20).take 9 → V5 (Proc.devRef .tc r) = V4 (Proc.devRef .tc r) :=
    fun h => e5 ▸ keep_tinter V4 h
  have k6 : ∀ {r : Ref sig .tc}, r ∉ ((((((W_while0Ops0).drop 22).drop 20).drop 20).drop 20).drop 9).take 18 → V6 (Proc.devRef .tc r) = V5 (Proc.devRef .tc r) :=
    fun h => e6 ▸ keep_tover V5 h
  have a1 : V1 main_while0b_v134 = fun j : S6000.Idx => larger B 0 n (j 0) := e1 ▸ tx1_val V B n hB hi
  have a2 : V2 main_while0b_v147 = fun j : S6000.Idx => larger B 1 n (j 0) :=
    e2 ▸ ty1_val V1 B n (((k1 (r := main_v113_0) (by decide +kernel))).trans hB) (((k1 (r := main_v113_4) (by decide +kernel))).trans hi)
  have a3 : V3 main_while0b_v160 = fun j : S6000.Idx => smaller B 2 n (j 0) :=
    e3 ▸ tx2_val V2 B n (((k2 (r := main_v113_0) (by decide +kernel)).trans ((k1 (r := main_v113_0) (by decide +kernel)))).trans hB) (((k2 (r := main_v113_4) (by decide +kernel)).trans ((k1 (r := main_v113_4) (by decide +kernel)))).trans hi)
  have a4 : V4 main_while0b_v173 = fun j : S6000.Idx => smaller B 3 n (j 0) :=
    e4 ▸ ty2_val V3 B n (((k3 (r := main_v113_0) (by decide +kernel)).trans ((k2 (r := main_v113_0) (by decide +kernel)).trans ((k1 (r := main_v113_0) (by decide +kernel))))).trans hB) (((k3 (r := main_v113_4) (by decide +kernel)).trans ((k2 (r := main_v113_4) (by decide +kernel)).trans ((k1 (r := main_v113_4) (by decide +kernel))))).trans hi)
  have a5 : V5 main_while0b_v180 = fun j : S6000.Idx => inter B n (j 0) :=
    e5 ▸ tinter_val V4 B n (((k4 (r := main_while0b_v134) (by decide +kernel)).trans ((k3 (r := main_while0b_v134) (by decide +kernel)).trans ((k2 (r := main_while0b_v134) (by decide +kernel))))).trans a1) (((k4 (r := main_while0b_v147) (by decide +kernel)).trans ((k3 (r := main_while0b_v147) (by decide +kernel)))).trans a2)
      (((k4 (r := main_while0b_v160) (by decide +kernel))).trans a3) a4
  have a6 : V6 main_while0b_v194 = fun j : S6000.Idx => over B n (j 0) :=
    e6 ▸ tover_val V5 B n (((k5 (r := main_v113_1) (by decide +kernel)).trans ((k4 (r := main_v113_1) (by decide +kernel)).trans ((k3 (r := main_v113_1) (by decide +kernel)).trans ((k2 (r := main_v113_1) (by decide +kernel)).trans ((k1 (r := main_v113_1) (by decide +kernel))))))).trans hA) (((k5 (r := main_v113_4) (by decide +kernel)).trans ((k4 (r := main_v113_4) (by decide +kernel)).trans ((k3 (r := main_v113_4) (by decide +kernel)).trans ((k2 (r := main_v113_4) (by decide +kernel)).trans ((k1 (r := main_v113_4) (by decide +kernel))))))).trans hi) a5
  exact tkeep_val V6 n k _ (((k6 (r := main_v113_5) (by decide +kernel)).trans ((k5 (r := main_v113_5) (by decide +kernel)).trans ((k4 (r := main_v113_5) (by decide +kernel)).trans ((k3 (r := main_v113_5) (by decide +kernel)).trans ((k2 (r := main_v113_5) (by decide +kernel)).trans ((k1 (r := main_v113_5) (by decide +kernel)))))))).trans hk) (((k6 (r := main_v113_4) (by decide +kernel)).trans ((k5 (r := main_v113_4) (by decide +kernel)).trans ((k4 (r := main_v113_4) (by decide +kernel)).trans ((k3 (r := main_v113_4) (by decide +kernel)).trans ((k2 (r := main_v113_4) (by decide +kernel)).trans ((k1 (r := main_v113_4) (by decide +kernel)))))))).trans hi) (((k6 (r := main_v113_2) (by decide +kernel)).trans ((k5 (r := main_v113_2) (by decide +kernel)).trans ((k4 (r := main_v113_2) (by decide +kernel)).trans ((k3 (r := main_v113_2) (by decide +kernel)).trans ((k2 (r := main_v113_2) (by decide +kernel)).trans ((k1 (r := main_v113_2) (by decide +kernel)))))))).trans h2) a6

end Cert.Proof.KernelIdeal
-- ==== Proof.KernelIdealEntry.lean ====
/-
  What the kernel's loop begins with: the boxes, their areas, the numbers of the boxes, the index zero, every box kept.
-/
module

public import proofs.«01_k».proof.Proof.KernelIdealFrame
public import proofs.«01_k».proof.Proof.Boxes

@[expose] public section

set_option maxRecDepth 100000

noncomputable section

namespace Cert.Proof.KernelIdeal

open Cert.KernelIdeal Cert.KernelIdeal.Gen
open Cert.Proof.Boxes

open Idealize.ShloMosaic
open Idealize.ShloMosaic.TcCoe Idealize.ShloMosaic.Tactic
open Idealize.ShloMosaic.StableHlo

variable {F : FTy → Type} [FloatOps F]

variable (V : Valuation τ sig (Elt F)) (B : FVec F S6000x4 .f32)

/-- The loop's boxes are the sorted boxes. -/
theorem entry_boxes (hB : V main_v98 = B) : after hostOps0_9 V main_v113_0 = B := by
  after_results_simp_entrywise
  rw [hB]
  rfl

/-- The loop's second vector holds every box's area. -/
theorem entry_areas (hB : V main_v98 = B) : after hostOps0_9 V main_v113_1 = fun j : S6000.Idx => area B (j 0) := by
  after_results_simp_entrywise
  rw [hB]
  funext j
  rw [eq_ix1 j]
  have e := fun c off hoff hs hc => col_at B c off hoff hs hc (j 0)
  exact congrArg₂ FloatOps.mulf (congrArg₂ FloatOps.subf (e 2 _ rfl _ _) (e 0 _ rfl _ _))
    (congrArg₂ FloatOps.subf (e 3 _ rfl _ _) (e 1 _ rfl _ _))

/-- The numbers of the boxes. -/
theorem entry_numbers : after hostOps0_9 V main_v113_2 = iotaInDim S6000 32 0 := by
  after_results_simp_entrywise
  rfl

/-- The loop's index begins at zero. -/
theorem entry_index : after hostOps0_9 V main_v113_4 = fun _ => BitVec.ofNat 32 0 := by
  after_results_simp_entrywise
  rfl

/-- Every box is kept at first. -/
theorem entry_kept : after hostOps0_9 V main_v113_5 = fun _ => 1#1 := by
  after_results_simp_entrywise
  rfl

end Cert.Proof.KernelIdeal
-- ==== Proof.ReferenceIdealTrip.lean ====
/-
  One trip of the reference's loop, read box by box: the trip of index `n` decides box `n`, which is kept exactly when it
  overlaps no box kept so far; the other boxes stay as they were.
-/
module

public import proofs.«01_k».proof.Proof.ReferenceIdealFrame
public import proofs.«01_k».proof.Proof.Boxes

@[expose] public section

set_option maxRecDepth 100000

noncomputable section

namespace Cert.Proof.ReferenceIdeal

open Cert.ReferenceIdeal Cert.ReferenceIdeal.Gen Cert.ReferenceIdeal.Value
open Cert.Proof.Boxes

open Idealize.ShloMosaic
open Idealize.ShloMosaic.TcCoe Idealize.ShloMosaic.Tactic
open Idealize.ShloMosaic.StableHlo

variable {F : FTy → Type} [FloatOps F]

variable (V : Valuation τ sig (Elt F)) (n : Fin 6000)

/-- Two indices of boxes, as words, are equal exactly when they are. -/
theorem index_eq_iff (j : Fin 6000) : IntOp.cmpi .eq (BitVec.ofNat 32 j.val) (BitVec.ofNat 32 n.val) = 1#1 ↔ j = n := by
  have hj := j.isLt
  have hn := n.isLt
  show BitVec.ofBool (BitVec.ofNat 32 j.val == BitVec.ofNat 32 n.val) = 1#1 ↔ j = n
  constructor
  · intro h
    have h1 : (BitVec.ofNat 32 j.val == BitVec.ofNat 32 n.val) = true := by
      revert h
      cases (BitVec.ofNat 32 j.val == BitVec.ofNat 32 n.val) <;> decide
    have h2 := congrArg BitVec.toNat (eq_of_beq h1)
    rw [BitVec.toNat_ofNat, BitVec.toNat_ofNat, Nat.mod_eq_of_lt (by omega), Nat.mod_eq_of_lt (by omega)] at h2
    exact Fin.ext h2
  · rintro rfl
    rw [beq_self_eq_true]
    rfl

/-- A choice between the complement of one bit and another bit. -/
theorem select_bit (c a b : BitVec 1) : Scalar.select c (~~~a) b = 1#1 ↔ (c = 1#1 ∧ ¬a = 1#1) ∨ (¬c = 1#1 ∧ b = 1#1) := by
  revert c a b
  decide

/-- The trip of index `n` on the boxes kept, box by box. -/
theorem trip_keep (T : IVec S6000x6000 1) (k : IVec S6000 1) (h0 : V main_v167_0 = iotaInDim S6000 32 0) (h1 : V main_v167_1 = T)
    (hi : V main_v167_3 = fun _ => BitVec.ofNat 32 n.val) (hk : V main_v167_4 = k) (k' : IVec S6000 1)
    (hk' : afterL bodyI V main_v167_4 = k') (j : Fin 6000) :
    k' (ix1 j) = 1#1 ↔ (j = n ∧ ¬∃ i : Fin 6000, T (ix2 i n) = 1#1 ∧ k (ix1 i) = 1#1) ∨ (j ≠ n ∧ k (ix1 j) = 1#1) := by
  have e := hk'.symm.trans (trip_main_v167_4 V)
  unfold res_main_while0b_v178 at e
  rw [h0, h1, hi, hk] at e
  have ej := congrFun e (ix1 j)
  rw [ej]
  have hc := index_eq_iff n j
  refine (select_bit _ _ _).trans (or_congr (and_congr hc (not_congr ?_)) (and_congr (not_congr hc) Iff.rfl))
  refine (any_iff _ _ _ _).trans (exists_congr fun i => (andi_eq_one _ _).trans (and_congr ?_ Iff.rfl))
  refine iff_of_eq (congrArg (· = 1#1) (tableCol_at T _ n rfl ?_ _ _ i))
  exact (congrArg (fun v : IVec S_ 32 => (v (Shape.Idx.first h_S_)).toInt) (index_norm n.val n.isLt _)).trans
    (toInt_ofNat_of_lt (by omega))

end Cert.Proof.ReferenceIdeal
-- ==== Proof.ReferenceIdealEntry.lean ====
/-
  What the reference's loop begins with: the numbers of the boxes, the table of the overlaps of all pairs of boxes, the
  index zero, no box kept.
-/
module

public import proofs.«01_k».proof.Proof.ReferenceIdealFrame
public import proofs.«01_k».proof.Proof.Boxes

@[expose] public section

set_option maxRecDepth 100000

noncomputable section

namespace Cert.Proof.ReferenceIdeal

open Cert.ReferenceIdeal Cert.ReferenceIdeal.Gen Cert.ReferenceIdeal.Value
open Cert.Proof.Boxes

open Idealize.ShloMosaic
open Idealize.ShloMosaic.TcCoe Idealize.ShloMosaic.Tactic
open Idealize.ShloMosaic.StableHlo

variable {F : FTy → Type} [FloatOps F]

variable (V : Valuation τ sig (Elt F)) (B : FVec F S6000x4 .f32)

/-- The numbers of the boxes. -/
theorem entry_numbers : after hostOps0_9 V main_v167_0 = iotaInDim S6000 32 0 := by
  after_results_simp_entrywise
  rfl

/-- The loop's index begins at zero. -/
theorem entry_index : after hostOps0_9 V main_v167_3 = fun _ => BitVec.ofNat 32 0 := by
  after_results_simp_entrywise
  rfl

/-- No box is kept at first. -/
theorem entry_kept : after hostOps0_9 V main_v167_4 = fun _ => 0#1 := by
  after_results_simp_entrywise
  rfl

/-- A vector laid along the rows of a square table, read at a pair. -/
theorem alongRows_at (A : FVec F S6000 .f32) (i j : Fin 6000) :
    broadcastInDim S6000x6000 ![0, 1] bcast_S6000x1_S6000x6000_0_1 (broadcastInDim S6000x1 ![0] bcast_S6000_S6000x1_0 A) (ix2 i j)
      = A (ix1 i) := by
  pointwise

/-- A vector laid along the columns of a square table, read at a pair. -/
theorem alongCols_at (A : FVec F S6000 .f32) (i j : Fin 6000) :
    broadcastInDim S6000x6000 ![0, 1] bcast_S1x6000_S6000x6000_0_1 (broadcastInDim S1x6000 ![1] bcast_S6000_S1x6000_1 A) (ix2 i j)
      = A (ix1 j) := by
  pointwise

set_option maxHeartbeats 4000000 in
/-- The table's entry at a pair of boxes is the test that the two overlap. -/
theorem entry_overlaps (hB : V main_v98 = B) (T : IVec S6000x6000 1) (hT : after hostOps0_9 V main_v167_1 = T) (i j : Fin 6000) :
    T (ix2 i j) = over B i j := by
  rw [← hT]
  after_results_simp_entrywise
  rw [hB]
  have hr := fun c off hoff hs hc => (alongRows_at _ i j).trans (col_at B c off hoff hs hc i)
  have hl := fun c off hoff hs hc => (alongCols_at _ i j).trans (col_at B c off hoff hs hc j)
  have ha : ∀ k : Fin 6000, _ = area B k := fun k =>
    congrArg₂ FloatOps.mulf
      (congrArg₂ FloatOps.subf (col_at B 2 _ rfl slices_S6000x4_S6000x1_0_2 shapeCasts_S6000x1_S6000 k)
        (col_at B 0 _ rfl slices_S6000x4_S6000x1_0_0 shapeCasts_S6000x1_S6000 k))
      (congrArg₂ FloatOps.subf (col_at B 3 _ rfl slices_S6000x4_S6000x1_0_3 shapeCasts_S6000x1_S6000 k)
        (col_at B 1 _ rfl slices_S6000x4_S6000x1_0_1 shapeCasts_S6000x1_S6000 k))
  have hI : _ = inter B i j := congrArg₂ FloatOps.mulf
    (congrArg (FloatOps.maximumf · (FloatOps.ofBits .f32 0x00000000#32)) (congrArg₂ FloatOps.subf
      (congrArg₂ FloatOps.minimumf (hr 2 _ rfl slices_S6000x4_S6000x1_0_2 shapeCasts_S6000x1_S6000) (hl 2 _ rfl slices_S6000x4_S6000x1_0_2 shapeCasts_S6000x1_S6000))
      (congrArg₂ FloatOps.maximumf (hr 0 _ rfl slices_S6000x4_S6000x1_0_0 shapeCasts_S6000x1_S6000) (hl 0 _ rfl slices_S6000x4_S6000x1_0_0 shapeCasts_S6000x1_S6000))))
    (congrArg (FloatOps.maximumf · (FloatOps.ofBits .f32 0x00000000#32)) (congrArg₂ FloatOps.subf
      (congrArg₂ FloatOps.minimumf (hr 3 _ rfl slices_S6000x4_S6000x1_0_3 shapeCasts_S6000x1_S6000) (hl 3 _ rfl slices_S6000x4_S6000x1_0_3 shapeCasts_S6000x1_S6000))
      (congrArg₂ FloatOps.maximumf (hr 1 _ rfl slices_S6000x4_S6000x1_0_1 shapeCasts_S6000x1_S6000) (hl 1 _ rfl slices_S6000x4_S6000x1_0_1 shapeCasts_S6000x1_S6000))))
  exact congrArg (FloatOps.cmpf .ogt · (FloatOps.ofBits .f32 0x3F333333#32)) (congrArg₂ FloatOps.hostDivf hI
    (congrArg (FloatOps.addf · (FloatOps.ofBits .f32 0x3089705F#32)) (congrArg₂ FloatOps.subf
      (congrArg₂ FloatOps.addf ((alongRows_at _ i j).trans (ha i)) ((alongCols_at _ i j).trans (ha j))) hI)))

end Cert.Proof.ReferenceIdeal
-- ==== Proof.Nms.lean ====
/-
  Greedy suppression in its two forms. Forwards ("push"): every box starts kept, and step `k` strikes out the later boxes
  that box `k` overlaps, if box `k` is still kept. By definition ("pull"): no box starts kept, and step `k` decides box
  `k`: kept exactly when no box kept before overlaps it. After all steps the two keep the same boxes.
-/
module

public import Mathlib.Data.Fin.Basic
public import Mathlib.Tactic.Tauto

@[expose] public section

namespace Cert.Proof.Nms

variable {n : ℕ} (O : Fin n → Fin n → Prop) (K R : ℕ → Fin n → Prop)

/-- Forwards: after `k` steps a box is kept exactly when none of the first `k` boxes, before it and kept at its own
    step, overlaps it. -/
theorem push_iff (hK0 : ∀ j, K 0 j)
    (hKs : ∀ (k : ℕ) (hk : k < n) (j : Fin n), K (k + 1) j ↔ K k j ∧ ¬(O ⟨k, hk⟩ j ∧ k < j.val ∧ K k ⟨k, hk⟩)) :
    ∀ k, k ≤ n → ∀ j, K k j ↔ ∀ i : Fin n, i.val < k → i.val < j.val → ¬(O i j ∧ K i.val i) := by
  intro k
  induction k with
  | zero => exact fun _ j => ⟨fun _ i hi => absurd hi (Nat.not_lt_zero _), fun _ => hK0 j⟩
  | succ k ih =>
    intro hk j
    have hk' : k < n := hk
    rw [hKs k hk' j, ih (Nat.le_of_lt hk') j]
    constructor
    · rintro ⟨h, h'⟩ i hi hij ⟨ho, hkeep⟩
      rcases Nat.lt_succ_iff_lt_or_eq.mp hi with hlt | heq
      · exact h i hlt hij ⟨ho, hkeep⟩
      · obtain rfl : i = ⟨k, hk'⟩ := Fin.ext heq
        exact h' ⟨ho, hij, hkeep⟩
    · intro h
      exact ⟨fun i hi hij => h i (Nat.lt_succ_of_lt hi) hij,
        fun ⟨ho, hij, hkeep⟩ => h ⟨k, hk'⟩ (Nat.lt_succ_self k) hij ⟨ho, hkeep⟩⟩

/-- A box that is kept at its own step is kept at the end, and the other way round. -/
theorem push_final (hK0 : ∀ j, K 0 j)
    (hKs : ∀ (k : ℕ) (hk : k < n) (j : Fin n), K (k + 1) j ↔ K k j ∧ ¬(O ⟨k, hk⟩ j ∧ k < j.val ∧ K k ⟨k, hk⟩)) (j : Fin n) :
    K n j ↔ K j.val j := by
  rw [push_iff O K hK0 hKs n le_rfl j, push_iff O K hK0 hKs j.val j.isLt.le j]
  exact ⟨fun h i _ hij => h i i.isLt hij, fun h i _ hij => h i hij hij⟩

/-- By definition: after `k` steps the boxes kept are those of the first `k` that the forward form keeps at their own
    steps. -/
theorem pull_iff (hK0 : ∀ j, K 0 j)
    (hKs : ∀ (k : ℕ) (hk : k < n) (j : Fin n), K (k + 1) j ↔ K k j ∧ ¬(O ⟨k, hk⟩ j ∧ k < j.val ∧ K k ⟨k, hk⟩))
    (hR0 : ∀ j, ¬R 0 j)
    (hRs : ∀ (k : ℕ) (hk : k < n) (j : Fin n),
      R (k + 1) j ↔ (j = ⟨k, hk⟩ ∧ ¬∃ i, O i ⟨k, hk⟩ ∧ R k i) ∨ (j ≠ ⟨k, hk⟩ ∧ R k j)) :
    ∀ k, k ≤ n → ∀ j, R k j ↔ j.val < k ∧ K j.val j := by
  intro k
  induction k with
  | zero => exact fun _ j => ⟨fun h => absurd h (hR0 j), fun h => absurd h.1 (Nat.not_lt_zero _)⟩
  | succ k ih =>
    intro hk j
    have hk' : k < n := hk
    have ih' := ih hk'.le
    rw [hRs k hk' j]
    constructor
    · rintro (⟨rfl, hno⟩ | ⟨hne, hr⟩)
      · refine ⟨Nat.lt_succ_self k, (push_iff O K hK0 hKs k hk'.le ⟨k, hk'⟩).mpr fun i hi _ ⟨ho, hkeep⟩ => ?_⟩
        exact hno ⟨i, ho, (ih' i).mpr ⟨hi, hkeep⟩⟩
      · exact ⟨Nat.lt_succ_of_lt ((ih' j).mp hr).1, ((ih' j).mp hr).2⟩
    · rintro ⟨hlt, hkeep⟩
      rcases Nat.lt_succ_iff_lt_or_eq.mp hlt with hl | heq
      · exact Or.inr ⟨fun h => absurd (congrArg Fin.val h) (Nat.ne_of_lt hl), (ih' j).mpr ⟨hl, hkeep⟩⟩
      · obtain rfl : j = ⟨k, hk'⟩ := Fin.ext heq
        refine Or.inl ⟨rfl, fun ⟨i, ho, hr⟩ => ?_⟩
        have hi := (ih' i).mp hr
        exact (push_iff O K hK0 hKs k hk'.le ⟨k, hk'⟩).mp hkeep i hi.1 hi.1 ⟨ho, hi.2⟩

/-- After all steps the two forms keep the same boxes. -/
theorem push_eq_pull (hK0 : ∀ j, K 0 j)
    (hKs : ∀ (k : ℕ) (hk : k < n) (j : Fin n), K (k + 1) j ↔ K k j ∧ ¬(O ⟨k, hk⟩ j ∧ k < j.val ∧ K k ⟨k, hk⟩))
    (hR0 : ∀ j, ¬R 0 j)
    (hRs : ∀ (k : ℕ) (hk : k < n) (j : Fin n),
      R (k + 1) j ↔ (j = ⟨k, hk⟩ ∧ ¬∃ i, O i ⟨k, hk⟩ ∧ R k i) ∨ (j ≠ ⟨k, hk⟩ ∧ R k j)) (j : Fin n) :
    K n j ↔ R n j := by
  rw [push_final O K hK0 hKs j, pull_iff O K R hK0 hKs hR0 hRs n le_rfl j]
  exact ⟨fun h => ⟨j.isLt, h⟩, fun h => h.2⟩

end Cert.Proof.Nms
-- ==== Proof.RelLoop.lean ====
/-
  The two loops decide the same boxes. Trip by trip, the kernel's loop is the forward form of the suppression (box `k`, if
  still kept, strikes out the later boxes that it overlaps) and the reference's loop is its definition (box `k` is kept
  exactly when it overlaps no box kept before it), over the same table of overlaps.
-/
module

public import proofs.«01_k».proof.Proof.KernelIdealTrip
public import proofs.«01_k».proof.Proof.KernelIdealEntry
public import proofs.«01_k».proof.Proof.ReferenceIdealTrip
public import proofs.«01_k».proof.Proof.ReferenceIdealEntry
public import proofs.«01_k».proof.Proof.Nms

@[expose] public section

set_option maxRecDepth 100000

noncomputable section

open Idealize.ShloMosaic
open Idealize.ShloMosaic.TcCoe Idealize.ShloMosaic.Tactic
open Idealize.ShloMosaic.StableHlo

/-! ## The kernel's loop -/

namespace Cert.Proof.KernelIdeal

open Cert.KernelIdeal Cert.KernelIdeal.Gen
open Cert.Proof.Boxes

variable {F : FTy → Type} [FloatOps F]

variable (m : (ℓ : Loc nD τ sig) → Buf (Elt F) ℓ) (c : Dev nD) (B : FVec F S6000x4 .f32)

/-- The condition leaves every buffer but its own two. -/
theorem keep_cond (V : Valuation τ sig (Elt F)) {r : Ref sig .tc} (h : r ∉ [main_while0c_c_29, main_while0c_v121]) :
    after condOps V (Proc.devRef .tc r) = V (Proc.devRef .tc r) :=
  after_unwritten [main_while0c_c_29, main_while0c_v121] rfl h V

/-- The boxes kept before the trip of index `k`. -/
def keptAt (k : ℕ) : IVec S6000 1 := atK m k c main_v113_5

/-- The contents at the loop's entry are those that the last stretch before it leaves. -/
theorem entry_last {r : Ref sig .tc} {x : (Proc.devRef .tc r : DevRef τ sig).ty.Contents (Elt F)}
    (h : ∀ V : Valuation τ sig (Elt F), V main_v98 = B → after hostOps0_9 V (Proc.devRef .tc r) = x)
    (hB : entryContents preI m c main_v98 = B) : entryContents preI m c (Proc.devRef .tc r) = x := by
  simp only [entryContents, afterL_cons, afterL_nil] at hB ⊢
  rw [keep_hostOps0_9 _ (r := main_v98) (by decide +kernel)] at hB
  exact h _ hB

/-- Before its trip `k` the loop's index is `k`. -/
theorem index_at (hB : entryContents preI m c main_v98 = B) : ∀ k, k ≤ 6000 → atK m k c main_v113_4 = fun _ => BitVec.ofNat 32 k
  | 0, _ => entry_last m c B (fun V _ => entry_index V) hB
  | k + 1, hk => by
    rw [show atK m (k + 1) c = afterL bodyI (after condOps (atK m k c)) from rfl]
    simp only [afterL_cons, afterL_nil]
    exact trip_index _ ⟨k, hk⟩ ((keep_cond _ (r := main_v113_4) (by decide +kernel)).trans (index_at hB k (by omega)))

/-- Every box is kept at first. -/
theorem kept_zero (hB : entryContents preI m c main_v98 = B) (j : Fin 6000) : keptAt m c 0 (ix1 j) = 1#1 :=
  congrFun (entry_last m c B (fun V _ => entry_kept V) hB) (ix1 j)

/-- The order of two boxes' numbers, as words. -/
theorem later_iff (j n : Fin 6000) : IntOp.cmpi .sgt (BitVec.ofNat 32 j.val) (BitVec.ofNat 32 n.val) = 1#1 ↔ n.val < j.val := by
  have hj := j.isLt
  have hn := n.isLt
  show BitVec.ofBool ((BitVec.ofNat 32 n.val).slt (BitVec.ofNat 32 j.val)) = 1#1 ↔ n.val < j.val
  rw [BitVec.slt_eq_decide, toInt_ofNat_of_lt (by omega), toInt_ofNat_of_lt (by omega)]
  by_cases h : n.val < j.val <;> simp [h]

/-- Trip `k` strikes out the later boxes that box `k`, if kept, overlaps. -/
theorem kept_succ (hB : entryContents preI m c main_v98 = B) (k : ℕ) (hk : k < 6000) (j : Fin 6000) :
    keptAt m c (k + 1) (ix1 j) = 1#1 ↔ keptAt m c k (ix1 j) = 1#1
      ∧ ¬(over B ⟨k, hk⟩ j = 1#1 ∧ k < j.val ∧ keptAt m c k (ix1 ⟨k, hk⟩) = 1#1) := by
  have h : keptAt m c (k + 1) = after while0Ops0 (after condOps (atK m k c)) main_v113_5 := rfl
  have e := congrFun (h.trans (trip_keep (after condOps (atK m k c)) B ⟨k, hk⟩ (keptAt m c k)
    ((keep_cond _ (r := main_v113_0) (by decide +kernel)).trans ((atK_keep m c (r := main_v113_0) (by decide +kernel) k).trans
      (entry_last m c B (fun V h => entry_boxes V B h) hB)))
    ((keep_cond _ (r := main_v113_1) (by decide +kernel)).trans ((atK_keep m c (r := main_v113_1) (by decide +kernel) k).trans
      (entry_last m c B (fun V h => entry_areas V B h) hB)))
    ((keep_cond _ (r := main_v113_2) (by decide +kernel)).trans ((atK_keep m c (r := main_v113_2) (by decide +kernel) k).trans
      (entry_last m c B (fun V h => entry_numbers V) hB)))
    ((keep_cond _ (r := main_v113_4) (by decide +kernel)).trans (index_at m c B hB k hk.le))
    (keep_cond _ (r := main_v113_5) (by decide +kernel)))) (ix1 j)
  rw [e]
  refine (andi_eq_one _ _).trans (and_congr Iff.rfl ((not_eq_one _).trans (not_congr ?_)))
  refine (andi_eq_one _ _).trans ((and_congr ((andi_eq_one _ _).trans (and_congr Iff.rfl (later_iff j ⟨k, hk⟩))) Iff.rfl).trans ?_)
  exact and_assoc

end Cert.Proof.KernelIdeal

/-! ## The reference's loop -/

namespace Cert.Proof.ReferenceIdeal

open Cert.ReferenceIdeal Cert.ReferenceIdeal.Gen Cert.ReferenceIdeal.Value
open Cert.Proof.Boxes

variable {F : FTy → Type} [FloatOps F]

variable (m : (ℓ : Loc nD τ sig) → Buf (Elt F) ℓ) (c : Dev nD) (B : FVec F S6000x4 .f32)

/-- The condition leaves every buffer but its own two. -/
theorem keep_cond (V : Valuation τ sig (Elt F)) {r : Ref sig .tc} (h : r ∉ condOps_W) :
    after condOps V (Proc.devRef .tc r) = V (Proc.devRef .tc r) :=
  after_of_writes_sub _ _ condOps_writes h

/-- The boxes kept before the trip of index `k`. -/
def keptAt (k : ℕ) : IVec S6000 1 := atK m k c main_v167_4

/-- The contents at the loop's entry are those that the last stretch before it leaves. -/
theorem entry_last {r : Ref sig .tc} {x : (Proc.devRef .tc r : DevRef τ sig).ty.Contents (Elt F)}
    (h : ∀ V : Valuation τ sig (Elt F), V main_v98 = B → after hostOps0_9 V (Proc.devRef .tc r) = x)
    (hB : entryContents preI m c main_v98 = B) : entryContents preI m c (Proc.devRef .tc r) = x := by
  simp only [entryContents, afterL_cons, afterL_nil] at hB ⊢
  rw [after_of_writes_sub (r := main_v98) _ _ hostOps0_9_writes (by decide +kernel)] at hB
  exact h _ hB

/-- Before its trip `k` the loop's index is `k`. -/
theorem index_at (hB : entryContents preI m c main_v98 = B) : ∀ k, atK m k c main_v167_3 = fun _ => BitVec.ofNat 32 k
  | 0 => entry_last m c B (fun V _ => entry_index V) hB
  | k + 1 => by
    rw [show atK m (k + 1) c = afterL bodyI (after condOps (atK m k c)) from rfl]
    refine (trip_main_v167_3 _).trans ?_
    rw [keep_cond _ (r := main_v167_3) (by decide +kernel), index_at hB k]
    funext u
    exact (BitVec.ofNat_add k 1).symm

/-- No box is kept at first. -/
theorem kept_zero (hB : entryContents preI m c main_v98 = B) (j : Fin 6000) : ¬keptAt m c 0 (ix1 j) = 1#1 := by
  rw [show keptAt m c 0 = fun _ => 0#1 from entry_last m c B (fun V _ => entry_kept V) hB]
  exact fun h => absurd (show (0#1 : BitVec 1) = 1#1 from h) (by decide)

/-- The table of overlaps at the loop's entry. -/
theorem overlaps_at (hB : entryContents preI m c main_v98 = B) (T : IVec S6000x6000 1)
    (hT : entryContents preI m c main_v167_1 = T) (i j : Fin 6000) : T (ix2 i j) = over B i j := by
  simp only [entryContents, afterL_cons, afterL_nil] at hB hT
  rw [after_of_writes_sub (r := main_v98) _ _ hostOps0_9_writes (by decide +kernel)] at hB
  exact entry_overlaps _ B hB T hT i j

/-- Trip `k` decides box `k`: it is kept exactly when it overlaps no box kept so far. -/
theorem kept_succ (hB : entryContents preI m c main_v98 = B) (k : ℕ) (hk : k < 6000) (j : Fin 6000) :
    keptAt m c (k + 1) (ix1 j) = 1#1
      ↔ (j = ⟨k, hk⟩ ∧ ¬∃ i : Fin 6000, over B i ⟨k, hk⟩ = 1#1 ∧ keptAt m c k (ix1 i) = 1#1)
        ∨ (j ≠ ⟨k, hk⟩ ∧ keptAt m c k (ix1 j) = 1#1) := by
  have e := trip_keep (after condOps (atK m k c)) ⟨k, hk⟩ (entryContents preI m c main_v167_1) (keptAt m c k)
    ((keep_cond _ (r := main_v167_0) (by decide +kernel)).trans ((atK_keep m c (r := main_v167_0) (by decide +kernel) k).trans
      (entry_last m c B (fun V h => entry_numbers V) hB)))
    ((keep_cond _ (r := main_v167_1) (by decide +kernel)).trans (atK_keep m c (r := main_v167_1) (by decide +kernel) k))
    ((keep_cond _ (r := main_v167_3) (by decide +kernel)).trans (index_at m c B hB k))
    (keep_cond _ (r := main_v167_4) (by decide +kernel)) (keptAt m c (k + 1)) rfl j
  refine e.trans (or_congr (and_congr Iff.rfl (not_congr (exists_congr fun i => and_congr ?_ Iff.rfl))) Iff.rfl)
  rw [overlaps_at m c B hB _ rfl i ⟨k, hk⟩]

end Cert.Proof.ReferenceIdeal

/-! ## The two loops -/

namespace Cert.Proof.Rel

open Cert.Proof.Boxes

variable {F : FTy → Type} [FloatOps F]

/-- From the same sorted boxes, both loops end with the same boxes kept. -/
theorem kept_eq (m : (ℓ : Loc KernelIdeal.nD KernelIdeal.τ KernelIdeal.sig) → Buf (Elt F) ℓ) (c : Dev KernelIdeal.nD)
    (m' : (ℓ : Loc ReferenceIdeal.nD ReferenceIdeal.τ ReferenceIdeal.sig) → Buf (Elt F) ℓ) (c' : Dev ReferenceIdeal.nD)
    (B : FVec F KernelIdeal.S6000x4 .f32)
    (hB : entryContents Cert.Proof.KernelIdeal.preI m c KernelIdeal.main_v98 = B)
    (hB' : entryContents ReferenceIdeal.Value.preI m' c' ReferenceIdeal.main_v98 = B) :
    KernelIdeal.keptAt m c 6000 = ReferenceIdeal.keptAt m' c' 6000 := by
  funext j
  have h := Nms.push_eq_pull (fun i j => over B i j = 1#1) (fun k j => KernelIdeal.keptAt m c k (ix1 j) = 1#1)
    (fun k j => ReferenceIdeal.keptAt m' c' k (ix1 j) = 1#1) (KernelIdeal.kept_zero m c B hB) (KernelIdeal.kept_succ m c B hB)
    (ReferenceIdeal.kept_zero m' c' B hB') (ReferenceIdeal.kept_succ m' c' B hB') (j 0)
  rw [eq_ix1 j]
  rcases bit_cases (KernelIdeal.keptAt m c 6000 (ix1 (j 0))) with e | e
  · rcases bit_cases (ReferenceIdeal.keptAt m' c' 6000 (ix1 (j 0))) with e' | e'
    · exact e.trans e'.symm
    · exact absurd (e.symm.trans (h.mpr e')) (by decide)
  · exact e.trans (h.mp e).symm

end Cert.Proof.Rel
-- ==== Proof.RelPost.lean ====
/-
  After the loops: from the same sorted boxes, the same sorted scores and the same boxes kept, both programs take the same
  1000 boxes.
-/
module

public import proofs.«01_k».proof.Proof.RelPre
public import proofs.«01_k».proof.Proof.KernelIdealFrame
public import proofs.«01_k».proof.Proof.ReferenceIdealFrame

@[expose] public section

set_option maxRecDepth 100000

noncomputable section

namespace Cert.Proof.Rel

open Idealize.ShloMosaic
open Idealize.ShloMosaic.TcCoe Idealize.ShloMosaic.Tactic
open Idealize.ShloMosaic.StableHlo

variable {F : FTy → Type} [FloatOps F]

variable (V : VK F) (V' : VR F)

/-- The boxes kept whose score is finite. -/
theorem post0 (h : V KernelIdeal.main_v99 = V' ReferenceIdeal.main_v99) (h' : V KernelIdeal.main_v113_5 = V' ReferenceIdeal.main_v167_4) :
    after KernelIdeal.Gen.hostOps0_10 V KernelIdeal.main_v117 = after ReferenceIdeal.Gen.hostOps0_10 V' ReferenceIdeal.main_v171
    ∧ after KernelIdeal.Gen.hostOps0_10 V KernelIdeal.main_cst_21 = after ReferenceIdeal.Gen.hostOps0_10 V' ReferenceIdeal.main_cst_25 := by
  simp only [KernelIdeal.Gen.hostOps0_10, ReferenceIdeal.Gen.hostOps0_10]
  after_results_simp
  rw [h, h']
  exact ⟨rfl, trivial⟩

/-- Their scores, the others' being minus infinity. -/
theorem post1 (h : V KernelIdeal.main_v117 = V' ReferenceIdeal.main_v171) (h' : V KernelIdeal.main_v99 = V' ReferenceIdeal.main_v99)
    (hc : V KernelIdeal.main_cst_21 = V' ReferenceIdeal.main_cst_25) :
    after KernelIdeal.Gen.hostOps0_11 V KernelIdeal.main_v118 = after ReferenceIdeal.Gen.hostOps0_11 V' ReferenceIdeal.main_v172 := by
  simp only [KernelIdeal.Gen.hostOps0_11, ReferenceIdeal.Gen.hostOps0_11]
  after_results_simp
  rw [h, h', hc]

/-- The 1000 best. -/
theorem post2 (h : V KernelIdeal.main_v118 = V' ReferenceIdeal.main_v172) :
    after KernelIdeal.Gen.hostOps0_12 V KernelIdeal.main_indices_23
      = after ReferenceIdeal.Gen.hostOps0_12 V' ReferenceIdeal.main_indices_27 := by
  simp only [KernelIdeal.Gen.hostOps0_12, ReferenceIdeal.Gen.hostOps0_12]
  after_results_simp
  rw [h]

set_option maxHeartbeats 2000000 in
/-- Their boxes. -/
theorem post3 (h : V KernelIdeal.main_v98 = V' ReferenceIdeal.main_v98)
    (h' : V KernelIdeal.main_indices_23 = V' ReferenceIdeal.main_indices_27) :
    after KernelIdeal.Gen.hostOps0_13 V KernelIdeal.main_v119 = after ReferenceIdeal.Gen.hostOps0_13 V' ReferenceIdeal.main_v173 := by
  simp only [KernelIdeal.Gen.hostOps0_13, ReferenceIdeal.Gen.hostOps0_13]
  after_results_simp
  rw [h, h']
  rfl

/-- The stretches after the loop. -/
theorem post_eq (V0 : VK F) (V0' : VR F) (h_v98 : V0 KernelIdeal.main_v98 = V0' ReferenceIdeal.main_v98)
    (h_v99 : V0 KernelIdeal.main_v99 = V0' ReferenceIdeal.main_v99) (hk : V0 KernelIdeal.main_v113_5 = V0' ReferenceIdeal.main_v167_4) :
    afterL Cert.Proof.KernelIdeal.postI V0 KernelIdeal.main_v119 = afterL ReferenceIdeal.Value.postI V0' ReferenceIdeal.main_v173 := by
  simp only [afterL_cons, afterL_nil]
  have g_keep := post0 V0 V0' h_v99 hk
  have g_v98 := ((Cert.Proof.KernelIdeal.keep_hostOps0_10 V0 (r := KernelIdeal.main_v98) (by decide +kernel)).trans
    (h_v98.trans (Cert.Proof.ReferenceIdeal.keep_hostOps0_10 V0' (r := ReferenceIdeal.main_v98) (by decide +kernel)).symm))
  have g_v99 := ((Cert.Proof.KernelIdeal.keep_hostOps0_10 V0 (r := KernelIdeal.main_v99) (by decide +kernel)).trans
    (h_v99.trans (Cert.Proof.ReferenceIdeal.keep_hostOps0_10 V0' (r := ReferenceIdeal.main_v99) (by decide +kernel)).symm))
  generalize after KernelIdeal.Gen.hostOps0_10 V0 = V1 at g_keep g_v98 g_v99 ⊢
  generalize after ReferenceIdeal.Gen.hostOps0_10 V0' = V1' at g_keep g_v98 g_v99 ⊢
  clear h_v98 h_v99
  rename' g_keep => h_keep, g_v98 => h_v98, g_v99 => h_v99
  have g_masked := post1 V1 V1' h_keep.1 h_v99 h_keep.2
  have g_v98 := ((Cert.Proof.KernelIdeal.keep_hostOps0_11 V1 (r := KernelIdeal.main_v98) (by decide +kernel)).trans
    (h_v98.trans (Cert.Proof.ReferenceIdeal.keep_hostOps0_11 V1' (r := ReferenceIdeal.main_v98) (by decide +kernel)).symm))
  generalize after KernelIdeal.Gen.hostOps0_11 V1 = V2 at g_masked g_v98 ⊢
  generalize after ReferenceIdeal.Gen.hostOps0_11 V1' = V2' at g_masked g_v98 ⊢
  clear h_keep h_v98 h_v99
  rename' g_masked => h_masked, g_v98 => h_v98
  have g_chosen := post2 V2 V2' h_masked
  have g_v98 := ((Cert.Proof.KernelIdeal.keep_hostOps0_12 V2 (r := KernelIdeal.main_v98) (by decide +kernel)).trans
    (h_v98.trans (Cert.Proof.ReferenceIdeal.keep_hostOps0_12 V2' (r := ReferenceIdeal.main_v98) (by decide +kernel)).symm))
  generalize after KernelIdeal.Gen.hostOps0_12 V2 = V3 at g_chosen g_v98 ⊢
  generalize after ReferenceIdeal.Gen.hostOps0_12 V2' = V3' at g_chosen g_v98 ⊢
  clear h_masked h_v98
  rename' g_chosen => h_chosen, g_v98 => h_v98
  exact post3 V3 V3' h_v98 h_chosen

end Cert.Proof.Rel
-- ==== Proof.RelValue.lean ====
/-
  The equation: from equal arguments the kernel's result is the reference's.
-/
module

public import proofs.«01_k».proof.Proof.RelEntry
public import proofs.«01_k».proof.Proof.RelLoop
public import proofs.«01_k».proof.Proof.RelPost

@[expose] public section

set_option maxRecDepth 100000

noncomputable section

namespace Cert.Proof.Rel

open Idealize.ShloMosaic
open Idealize.ShloMosaic.TcCoe Idealize.ShloMosaic.Tactic
open Idealize.ShloMosaic.StableHlo

variable {F : FTy → Type} [FloatOps F]

/-- From equal anchors, deltas and scores, the kernel ends with the boxes that the reference ends with. -/
theorem result_eq (m : (ℓ : Loc KernelIdeal.nD KernelIdeal.τ KernelIdeal.sig) → Buf (Elt F) ℓ) (c : Dev KernelIdeal.nD)
    (m' : (ℓ : Loc ReferenceIdeal.nD ReferenceIdeal.τ ReferenceIdeal.sig) → Buf (Elt F) ℓ) (c' : Dev ReferenceIdeal.nD)
    (h0 : launchContents m c KernelIdeal.main_arg0 = launchContents m' c' ReferenceIdeal.main_arg0)
    (h1 : launchContents m c KernelIdeal.main_arg1 = launchContents m' c' ReferenceIdeal.main_arg1)
    (h2 : launchContents m c KernelIdeal.main_arg2 = launchContents m' c' ReferenceIdeal.main_arg2) :
    KernelIdeal.Ve m c KernelIdeal.main_v120 = ReferenceIdeal.Vf m' c' ReferenceIdeal.main_v173 := by
  obtain ⟨e98, e99⟩ := pre_eq (launchContents m c) (launchContents m' c') h0 h1 h2
  rw [KernelIdeal.Ve_result]
  refine post_eq (after KernelIdeal.condOps (KernelIdeal.atK m 6000 c))
    (after ReferenceIdeal.Value.condOps (ReferenceIdeal.Value.atK m' 6000 c')) ?_ ?_ ?_
  · exact (KernelIdeal.keep_cond _ (r := Cert.KernelIdeal.main_v98) (by decide +kernel)).trans
      ((KernelIdeal.atK_keep m c (r := Cert.KernelIdeal.main_v98) (by decide +kernel) 6000).trans (e98.trans
        ((ReferenceIdeal.keep_cond _ (r := Cert.ReferenceIdeal.main_v98) (by decide +kernel)).trans
          (ReferenceIdeal.atK_keep m' c' (r := Cert.ReferenceIdeal.main_v98) (by decide +kernel) 6000)).symm))
  · exact (KernelIdeal.keep_cond _ (r := Cert.KernelIdeal.main_v99) (by decide +kernel)).trans
      ((KernelIdeal.atK_keep m c (r := Cert.KernelIdeal.main_v99) (by decide +kernel) 6000).trans (e99.trans
        ((ReferenceIdeal.keep_cond _ (r := Cert.ReferenceIdeal.main_v99) (by decide +kernel)).trans
          (ReferenceIdeal.atK_keep m' c' (r := Cert.ReferenceIdeal.main_v99) (by decide +kernel) 6000)).symm))
  · exact (KernelIdeal.keep_cond _ (r := Cert.KernelIdeal.main_v113_5) (by decide +kernel)).trans
      ((kept_eq m c m' c' _ e98 rfl).trans
        (ReferenceIdeal.keep_cond _ (r := Cert.ReferenceIdeal.main_v167_4) (by decide +kernel)).symm)

end Cert.Proof.Rel
-- ==== Proof.lean ====
/-
  The certificate: the frames of the kernel, of its ideal reading and of the reference, and the equation of the latter two.
  The run of each program gives every buffer's final contents (KernelRun, KernelIdealRun, and the reference's own run);
  KernelFrame and its fellows say that the arguments are not written; RelValue says that the results are equal.
-/
module

public import proofs.«01_k».proof.Defs
public import proofs.«01_k».proof.Proof.KernelFrame
public import proofs.«01_k».proof.Proof.KernelIdealFrame
public import proofs.«01_k».proof.Proof.ReferenceIdealFrame
public import proofs.«01_k».proof.Proof.RelValue
public import Idealize.ShloMosaic.Adequacy
public import Idealize.ShloMosaic.Init

@[expose] public section

set_option maxRecDepth 100000

noncomputable section

namespace Cert.Proof

open Idealize.ShloMosaic Idealize.SL.Sem
open Idealize.ShloMosaic.TcCoe

variable {F : FTy → Type} [FloatOps F]

set_option backward.isDefEq.respectTransparency.types false in
/-- The reference's run, with its counters: the program has none. -/
theorem reference_run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      (fun r => (∀ (c : Dev Cert.ReferenceIdeal.nD) (b : Ref Cert.ReferenceIdeal.sig .tc),
        (Proc.devRef .tc b : DevRef Cert.ReferenceIdeal.τ Cert.ReferenceIdeal.sig).isScoped = false →
          r.2.mem ((c.tc : Thread Cert.ReferenceIdeal.nD Cert.ReferenceIdeal.τ).loc b) = ReferenceIdeal.Vf m c (Proc.devRef .tc b))
        ∧ r.2.sem = fun _ => 0) :=
  θ_run_mono (Cert.ReferenceIdeal.Value.run_fold m g) fun r h => ⟨h, sem_eq_zero_of_no_sems (by decide) r.2⟩

set_option backward.isDefEq.respectTransparency.types false in
/-- The kernel terminates, leaves its arguments and ends with every counter at zero. -/
theorem kernel_frame : Cert.quiescent_Kernel (hKernel := Cert.Kernel.Gen.facts) := fun m g _ =>
  θ_run_mono (Kernel.run m g) fun _ h => ⟨fun c =>
    ⟨(h.1 c _ rfl).trans (Kernel.Ve_arg0 m c), (h.1 c _ rfl).trans (Kernel.Ve_arg1 m c),
      (h.1 c _ rfl).trans (Kernel.Ve_arg2 m c)⟩, h.2⟩

set_option backward.isDefEq.respectTransparency.types false in
/-- The same of its ideal reading. -/
theorem kernelIdeal_frame : Cert.quiescent_KernelIdeal (hKernelIdeal := Cert.KernelIdeal.Gen.facts) := fun m g _ =>
  θ_run_mono (KernelIdeal.run m g) fun _ h => ⟨fun c =>
    ⟨(h.1 c _ rfl).trans (KernelIdeal.Ve_arg0 m c), (h.1 c _ rfl).trans (KernelIdeal.Ve_arg1 m c),
      (h.1 c _ rfl).trans (KernelIdeal.Ve_arg2 m c)⟩, h.2⟩

set_option backward.isDefEq.respectTransparency.types false in
/-- The same of the reference. -/
theorem reference_frame : Cert.quiescent_ReferenceIdeal (hReferenceIdeal := Cert.ReferenceIdeal.Gen.facts) := fun m g _ =>
  θ_run_mono (reference_run m g) fun _ h => ⟨fun c =>
    ⟨(h.1 c _ rfl).trans (ReferenceIdeal.Vf_arg0 m c), (h.1 c _ rfl).trans (ReferenceIdeal.Vf_arg1 m c),
      (h.1 c _ rfl).trans (ReferenceIdeal.Vf_arg2 m c)⟩, h.2⟩

set_option backward.isDefEq.respectTransparency.types false in
/-- Kernel and reference compute the same boxes over the extended reals. -/
theorem value : Cert.algebraic_KernelIdeal_ReferenceIdeal (hKernelIdeal := Cert.KernelIdeal.Gen.facts)
    (hReferenceIdeal := Cert.ReferenceIdeal.Gen.facts) := fun m g m' g' _ hm =>
  ⟨fun c => KernelIdeal.Ve m c (Proc.devRef .tc Cert.KernelIdeal.main_v120),
    θ_run_mono (KernelIdeal.run m g) fun _ h c =>
      ⟨h.1 c _ rfl, (h.1 c _ rfl).trans (KernelIdeal.Ve_arg0 m c), (h.1 c _ rfl).trans (KernelIdeal.Ve_arg1 m c),
        (h.1 c _ rfl).trans (KernelIdeal.Ve_arg2 m c)⟩,
    θ_run_mono (reference_run m' g') fun _ h c =>
      ⟨(h.1 c _ rfl).trans (Rel.result_eq m c m' c (hm c).1.symm (hm c).2.1.symm (hm c).2.2.symm).symm,
        (h.1 c _ rfl).trans (ReferenceIdeal.Vf_arg0 m' c), (h.1 c _ rfl).trans (ReferenceIdeal.Vf_arg1 m' c),
        (h.1 c _ rfl).trans (ReferenceIdeal.Vf_arg2 m' c)⟩⟩

/-- Every claim. -/
theorem claim : Cert.Claim :=
  ⟨Cert.Kernel.Gen.facts, Cert.KernelIdeal.Gen.facts, Cert.ReferenceIdeal.Gen.facts,
    kernel_frame, kernelIdeal_frame, reference_frame, trivial, value⟩

end Cert.Proof

end
